-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn_as_in_setup [hPre_drawn_as_in_setup : Cert.Pre_drawn_as_in_setup.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_as_in_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_drawn_as_in_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_drawn_as_in_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_drawn_as_in_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_as_in_setup [hPre_drawn_as_in_setup : Cert.Pre_drawn_as_in_setup.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_as_in_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_drawn_as_in_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_drawn_as_in_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_drawn_as_in_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_drawn_as_in_setup [hKernelIdeal : Cert.KernelIdeal.Facts] [hPre_drawn_as_in_setup : Cert.Pre_drawn_as_in_setup.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn_as_in_setup m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_drawn_as_in_setup [hReferenceIdeal : Cert.ReferenceIdeal.Facts] [hPre_drawn_as_in_setup : Cert.Pre_drawn_as_in_setup.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_as_in_setup m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_drawn_as_in_setup [hKernelIdeal : Cert.KernelIdeal.Facts] [hReferenceIdeal : Cert.ReferenceIdeal.Facts] [hPre_drawn_as_in_setup : Cert.Pre_drawn_as_in_setup.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn_as_in_setup m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_drawn_as_in_setup : Cert.Pre_drawn_as_in_setup.Facts),
    quiescent_Kernel (hKernel := hKernel)
    ∧ quiescent_KernelIdeal (hKernelIdeal := hKernelIdeal)
    ∧ quiescent_KernelIdeal_pre_drawn_as_in_setup (hKernelIdeal := hKernelIdeal) (hPre_drawn_as_in_setup := hPre_drawn_as_in_setup)
    ∧ quiescent_ReferenceIdeal (hReferenceIdeal := hReferenceIdeal)
    ∧ quiescent_ReferenceIdeal_pre_drawn_as_in_setup (hReferenceIdeal := hReferenceIdeal) (hPre_drawn_as_in_setup := hPre_drawn_as_in_setup)
    ∧ preserves_Kernel_KernelIdeal
    ∧ algebraic_KernelIdeal_ReferenceIdeal_pre_drawn_as_in_setup (hKernelIdeal := hKernelIdeal) (hReferenceIdeal := hReferenceIdeal) (hPre_drawn_as_in_setup := hPre_drawn_as_in_setup)
-- ==== Pre_drawn_as_in_setup.lean ====
abbrev S16384x33 : Shape := ⟨2, ![16384, 33]⟩
abbrev S512x256 : Shape := ⟨2, ![512, 256]⟩
abbrev S128x256 : Shape := ⟨2, ![128, 256]⟩
abbrev S1024x256 : Shape := ⟨2, ![1024, 256]⟩
abbrev S128x128 : Shape := ⟨2, ![128, 128]⟩
abbrev S512x512 : Shape := ⟨2, ![512, 512]⟩
abbrev S256 : Shape := ⟨1, ![256]⟩
abbrev S734x256 : Shape := ⟨2, ![734, 256]⟩
abbrev S_ : Shape := ⟨0, ![]⟩
abbrev S64x128 : Shape := ⟨2, ![64, 128]⟩
abbrev S64x512 : Shape := ⟨2, ![64, 512]⟩

class Facts : Prop where
  bcast_S_S16384x33 : S_.BroadcastsInDim S16384x33 (![] : Fin 0 → Fin S16384x33.rank)
  reducesTo_S16384x33_S_d0_1 : S16384x33.ReducesTo [0, 1] S_
  h_S_ : 0 < S_.numel
  slices_S128x128_S64x128_0_0 : S128x128.Slices ![0, 0] S64x128
  bcast_S_S64x128 : S_.BroadcastsInDim S64x128 (![] : Fin 0 → Fin S64x128.rank)
  reducesTo_S64x128_S_d0_1 : S64x128.ReducesTo [0, 1] S_
  slices_S512x512_S64x512_0_0 : S512x512.Slices ![0, 0] S64x512
  bcast_S_S64x512 : S_.BroadcastsInDim S64x512 (![] : Fin 0 → Fin S64x512.rank)
  reducesTo_S64x512_S_d0_1 : S64x512.ReducesTo [0, 1] S_

variable [Facts]

def fn_part1 {F : FTy → Type} [FloatOps F] (main_arg7 : FVec F S512x512 .f32) (main_v5 : IVec S_ 1) (main_v14 : IVec S_ 1) (main_v15 : FVec F S64x512 .f32) (main_v16 : IVec S64x512 32) (main_v17 : IVec S64x512 32) (main_c_4 : IVec S_ 32) : IVec S_ 1 × IVec S_ 1 × IVec S_ 1 × IVec S_ 1 :=
  let main_v18 : IVec S64x512 32 := broadcastInDim S64x512 ![] bcast_S_S64x512 main_c_4
  let main_v19 : IVec S64x512 32 := addi main_v16 main_v18
  let main_v20 : IVec S64x512 1 := cmpi .eq main_v19 main_v17
  let main_v21 : FVec F S64x512 .f32 := uitofp .f32 main_v20
  let main_v22 : IVec S64x512 1 := cmpf .oeq main_v15 main_v21
  let main_c_5 : IVec S_ 1 := constantI S_ 1 1#1
  let main_v23 : IVec S_ 1 := (fun x v => Host.reduce IntOp.andi x v reducesTo_S64x512_S_d0_1 h_S_) main_v22 main_c_5
  let main_v24 : FVec F S64x512 .f32 := (extractStridedSlice S64x512 ![0, 0] · slices_S512x512_S64x512_0_0) main_arg7
  let main_v25 : IVec S64x512 32 := iotaInDim S64x512 32 0
  let main_v26 : IVec S64x512 32 := iotaInDim S64x512 32 1
  let main_c_6 : IVec S_ 32 := constantI S_ 32 0#32
  let main_v27 : IVec S64x512 32 := broadcastInDim S64x512 ![] bcast_S_S64x512 main_c_6
  let main_v28 : IVec S64x512 32 := addi main_v25 main_v27
  let main_v29 : IVec S64x512 1 := cmpi .eq main_v28 main_v26
  let main_v30 : FVec F S64x512 .f32 := uitofp .f32 main_v29
  let main_v31 : IVec S64x512 1 := cmpf .oeq main_v24 main_v30
  let main_c_7 : IVec S_ 1 := constantI S_ 1 1#1
  let main_v32 : IVec S_ 1 := (fun x v => Host.reduce IntOp.andi x v reducesTo_S64x512_S_d0_1 h_S_) main_v31 main_c_7
  (main_v5, main_v14, main_v23, main_v32)

def fn {F : FTy → Type} [FloatOps F] (main_arg0 : IVec S16384x33 32) (main_arg1 : FVec F S512x256 .f32) (main_arg2 : FVec F S128x256 .f32) (main_arg3 : FVec F S512x256 .f32) (main_arg4 : FVec F S1024x256 .f32) (main_arg5 : FVec F S128x128 .f32) (main_arg6 : FVec F S512x512 .f32) (main_arg7 : FVec F S512x512 .f32) (main_arg8 : FVec F S128x256 .f32) (main_arg9 : FVec F S256 .f32) (main_arg10 : FVec F S512x256 .f32) (main_arg11 : FVec F S256 .f32) (main_arg12 : FVec F S734x256 .f32) (main_arg13 : FVec F S256 .f32) (main_arg14 : FVec F S256 .f32) (main_arg15 : FVec F S256 .f32) : IVec S_ 1 × IVec S_ 1 × IVec S_ 1 × IVec S_ 1 :=
  let main_c : IVec S_ 32 := constantI S_ 32 0#32
  let main_v0 : IVec S16384x33 32 := broadcastInDim S16384x33 ![] bcast_S_S16384x33 main_c
  let main_v1 : IVec S16384x33 1 := cmpi .sge main_arg0 main_v0
  let main_c_0 : IVec S_ 32 := constantI S_ 32 64#32
  let main_v2 : IVec S16384x33 32 := broadcastInDim S16384x33 ![] bcast_S_S16384x33 main_c_0
  let main_v3 : IVec S16384x33 1 := cmpi .slt main_arg0 main_v2
  let main_v4 : IVec S16384x33 1 := andi main_v1 main_v3
  let main_c_1 : IVec S_ 1 := constantI S_ 1 1#1
  let main_v5 : IVec S_ 1 := (fun x v => Host.reduce IntOp.andi x v reducesTo_S16384x33_S_d0_1 h_S_) main_v4 main_c_1
  let main_v6 : FVec F S64x128 .f32 := (extractStridedSlice S64x128 ![0, 0] · slices_S128x128_S64x128_0_0) main_arg5
  let main_v7 : IVec S64x128 32 := iotaInDim S64x128 32 0
  let main_v8 : IVec S64x128 32 := iotaInDim S64x128 32 1
  let main_c_2 : IVec S_ 32 := constantI S_ 32 0#32
  let main_v9 : IVec S64x128 32 := broadcastInDim S64x128 ![] bcast_S_S64x128 main_c_2
  let main_v10 : IVec S64x128 32 := addi main_v7 main_v9
  let main_v11 : IVec S64x128 1 := cmpi .eq main_v10 main_v8
  let main_v12 : FVec F S64x128 .f32 := uitofp .f32 main_v11
  let main_v13 : IVec S64x128 1 := cmpf .oeq main_v6 main_v12
  let main_c_3 : IVec S_ 1 := constantI S_ 1 1#1
  let main_v14 : IVec S_ 1 := (fun x v => Host.reduce IntOp.andi x v reducesTo_S64x128_S_d0_1 h_S_) main_v13 main_c_3
  let main_v15 : FVec F S64x512 .f32 := (extractStridedSlice S64x512 ![0, 0] · slices_S512x512_S64x512_0_0) main_arg6
  let main_v16 : IVec S64x512 32 := iotaInDim S64x512 32 0
  let main_v17 : IVec S64x512 32 := iotaInDim S64x512 32 1
  let main_c_4 : IVec S_ 32 := constantI S_ 32 0#32
  fn_part1 (F := F) main_arg7 main_v5 main_v14 main_v15 main_v16 main_v17 main_c_4
-- ==== Kernel.lean ====
abbrev S16384x33 : Shape := ⟨2, ![16384, 33]⟩
abbrev S512x256 : Shape := ⟨2, ![512, 256]⟩
abbrev S128x256 : Shape := ⟨2, ![128, 256]⟩
abbrev S1024x256 : Shape := ⟨2, ![1024, 256]⟩
abbrev S128x128 : Shape := ⟨2, ![128, 128]⟩
abbrev S512x512 : Shape := ⟨2, ![512, 512]⟩
abbrev S256 : Shape := ⟨1, ![256]⟩
abbrev S734x256 : Shape := ⟨2, ![734, 256]⟩
abbrev S1064x4 : Shape := ⟨2, ![1064, 4]⟩
abbrev S1064x1 : Shape := ⟨2, ![1064, 1]⟩
abbrev S33x1024 : Shape := ⟨2, ![33, 1024]⟩
abbrev S1024 : Shape := ⟨1, ![1024]⟩
abbrev S33 : Shape := ⟨1, ![33]⟩
abbrev S1064x1118 : Shape := ⟨2, ![1064, 1118]⟩
abbrev S_ : Shape := ⟨0, ![]⟩
abbrev S1064x734 : Shape := ⟨2, ![1064, 734]⟩
abbrev S1064x256 : Shape := ⟨2, ![1064, 256]⟩
abbrev S1064x64 : Shape := ⟨2, ![1064, 64]⟩
abbrev S1064x512 : Shape := ⟨2, ![1064, 512]⟩
abbrev S1064x128 : Shape := ⟨2, ![1064, 128]⟩
abbrev S1064x1024 : Shape := ⟨2, ![1064, 1024]⟩
abbrev S33x256 : Shape := ⟨2, ![33, 256]⟩
abbrev S1x256 : Shape := ⟨2, ![1, 256]⟩
abbrev S1x1024 : Shape := ⟨2, ![1, 1024]⟩
abbrev S1x33 : Shape := ⟨2, ![1, 33]⟩
abbrev S16384x256 : Shape := ⟨2, ![16384, 256]⟩
abbrev S2048x33 : Shape := ⟨2, ![2048, 33]⟩
abbrev S2048x256 : Shape := ⟨2, ![2048, 256]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 94
  | .vmem => 14
  | .smem => 0
  | _ => 0

abbrev bufTy : (tb : Table) → Fin (tcTables nBuf tb) → BufTy
  | .hbm, ⟨0, _⟩ => ⟨S16384x33, .i32⟩
  | .hbm, ⟨1, _⟩ => ⟨S512x256, .f32⟩
  | .hbm, ⟨2, _⟩ => ⟨S128x256, .f32⟩
  | .hbm, ⟨3, _⟩ => ⟨S512x256, .f32⟩
  | .hbm, ⟨4, _⟩ => ⟨S1024x256, .f32⟩
  | .hbm, ⟨5, _⟩ => ⟨S128x128, .f32⟩
  | .hbm, ⟨6, _⟩ => ⟨S512x512, .f32⟩
  | .hbm, ⟨7, _⟩ => ⟨S512x512, .f32⟩
  | .hbm, ⟨8, _⟩ => ⟨S128x256, .f32⟩
  | .hbm, ⟨9, _⟩ => ⟨S256, .f32⟩
  | .hbm, ⟨10, _⟩ => ⟨S512x256, .f32⟩
  | .hbm, ⟨11, _⟩ => ⟨S256, .f32⟩
  | .hbm, ⟨12, _⟩ => ⟨S734x256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S1064x4, .i32⟩
  | .hbm, ⟨17, _⟩ => ⟨S1064x1, .f32⟩
  | .hbm, ⟨18, _⟩ => ⟨S33x1024, .bf16⟩
  | .hbm, ⟨19, _⟩ => ⟨S1024, .f32⟩
  | .hbm, ⟨20, _⟩ => ⟨S33, .i32⟩
  | .hbm, ⟨21, _⟩ => ⟨S33, .i32⟩
  | .hbm, ⟨22, _⟩ => ⟨S33, .i32⟩
  | .hbm, ⟨23, _⟩ => ⟨S1064x1118, .i32⟩
  | .hbm, ⟨24, _⟩ => ⟨S1064x1, .i32⟩
  | .hbm, ⟨25, _⟩ => ⟨S1064x1118, .i32⟩
  | .hbm, ⟨26, _⟩ => ⟨S1064x1118, .i1⟩
  | .hbm, ⟨27, _⟩ => ⟨S1064x1, .i32⟩
  | .hbm, ⟨28, _⟩ => ⟨S1064x1118, .i32⟩
  | .hbm, ⟨29, _⟩ => ⟨S1064x1118, .i1⟩
  | .hbm, ⟨30, _⟩ => ⟨S1064x1118, .i1⟩
  | .hbm, ⟨31, _⟩ => ⟨S1064x1, .i32⟩
  | .hbm, ⟨32, _⟩ => ⟨S1064x1118, .i32⟩
  | .hbm, ⟨33, _⟩ => ⟨S1064x1118, .i1⟩
  | .hbm, ⟨34, _⟩ => ⟨S1064x1118, .i1⟩
  | .hbm, ⟨35, _⟩ => ⟨S1064x1, .i32⟩
  | .hbm, ⟨36, _⟩ => ⟨S1064x1118, .i32⟩
  | .hbm, ⟨37, _⟩ => ⟨S1064x1118, .i1⟩
  | .hbm, ⟨38, _⟩ => ⟨S1064x1118, .i1⟩
  | .hbm, ⟨39, _⟩ => ⟨S_, .f32⟩
  | .hbm, ⟨40, _⟩ => ⟨S_, .f32⟩
  | .hbm, ⟨41, _⟩ => ⟨S1064x1118, .f32⟩
  | .hbm, ⟨42, _⟩ => ⟨S1064x1118, .f32⟩
  | .hbm, ⟨43, _⟩ => ⟨S1064x1118, .f32⟩
  | .hbm, ⟨44, _⟩ => ⟨S1064x734, .f32⟩
  | .hbm, ⟨45, _⟩ => ⟨S1064x256, .f32⟩
  | .hbm, ⟨46, _⟩ => ⟨S1064x64, .f32⟩
  | .hbm, ⟨47, _⟩ => ⟨S_, .i32⟩
  | .hbm, ⟨48, _⟩ => ⟨S_, .f32⟩
  | .hbm, ⟨49, _⟩ => ⟨S1064x512, .f32⟩
  | .hbm, ⟨50, _⟩ => ⟨S1064x256, .f32⟩
  | .hbm, ⟨51, _⟩ => ⟨S1064x256, .f32⟩
  | .hbm, ⟨52, _⟩ => ⟨S1064x64, .f32⟩
  | .hbm, ⟨53, _⟩ => ⟨S_, .i32⟩
  | .hbm, ⟨54, _⟩ => ⟨S_, .f32⟩
  | .hbm, ⟨55, _⟩ => ⟨S1064x128, .f32⟩
  | .hbm, ⟨56, _⟩ => ⟨S1064x256, .f32⟩
  | .hbm, ⟨57, _⟩ => ⟨S1064x256, .f32⟩
  | .hbm, ⟨58, _⟩ => ⟨S1064x64, .f32⟩
  | .hbm, ⟨59, _⟩ => ⟨S_, .i32⟩
  | .hbm, ⟨60, _⟩ => ⟨S_, .f32⟩
  | .hbm, ⟨61, _⟩ => ⟨S1064x512, .f32⟩
  | .hbm, ⟨62, _⟩ => ⟨S1064x256, .f32⟩
  | .hbm, ⟨63, _⟩ => ⟨S1064x256, .f32⟩
  | .hbm, ⟨64, _⟩ => ⟨S1064x64, .f32⟩
  | .hbm, ⟨65, _⟩ => ⟨S_, .i32⟩
  | .hbm, ⟨66, _⟩ => ⟨S_, .f32⟩
  | .hbm, ⟨67, _⟩ => ⟨S1064x1024, .f32⟩
  | .hbm, ⟨68, _⟩ => ⟨S1064x256, .f32⟩
  | .hbm, ⟨69, _⟩ => ⟨S1064x256, .f32⟩
  | .hbm, ⟨70, _⟩ => ⟨S1064x64, .f32⟩
  | .hbm, ⟨71, _⟩ => ⟨S_, .i32⟩
  | .hbm, ⟨72, _⟩ => ⟨S_, .f32⟩
  | .hbm, ⟨73, _⟩ => ⟨S1064x128, .f32⟩
  | .hbm, ⟨74, _⟩ => ⟨S1064x256, .f32⟩
  | .hbm, ⟨75, _⟩ => ⟨S1064x256, .f32⟩
  | .hbm, ⟨76, _⟩ => ⟨S1064x64, .f32⟩
  | .hbm, ⟨77, _⟩ => ⟨S_, .i32⟩
  | .hbm, ⟨78, _⟩ => ⟨S_, .f32⟩
  | .hbm, ⟨79, _⟩ => ⟨S1064x512, .f32⟩
  | .hbm, ⟨80, _⟩ => ⟨S1064x256, .f32⟩
  | .hbm, ⟨81, _⟩ => ⟨S1064x256, .f32⟩
  | .hbm, ⟨82, _⟩ => ⟨S1024x256, .f32⟩
  | .hbm, ⟨83, _⟩ => ⟨S33x256, .f32⟩
  | .hbm, ⟨84, _⟩ => ⟨S256, .f32⟩
  | .hbm, ⟨85, _⟩ => ⟨S256, .f32⟩
  | .hbm, ⟨86, _⟩ => ⟨S1x256, .f32⟩
  | .hbm, ⟨87, _⟩ => ⟨S1x256, .f32⟩
  | .hbm, ⟨88, _⟩ => ⟨S1x256, .f32⟩
  | .hbm, ⟨89, _⟩ => ⟨S1x1024, .f32⟩
  | .hbm, ⟨90, _⟩ => ⟨S1x33, .i32⟩
  | .hbm, ⟨91, _⟩ => ⟨S1x33, .i32⟩
  | .hbm, ⟨92, _⟩ => ⟨S1x33, .i32⟩
  | .hbm, ⟨93, _⟩ => ⟨S16384x256, .f32⟩
  | .local _ .vmem, ⟨0, _⟩ => ⟨S2048x33, .i32⟩
  | .local _ .vmem, ⟨1, _⟩ => ⟨S2048x33, .i32⟩
  | .local _ .vmem, ⟨2, _⟩ => ⟨S33x1024, .bf16⟩
  | .local _ .vmem, ⟨3, _⟩ => ⟨S1x1024, .f32⟩
  | .local _ .vmem, ⟨4, _⟩ => ⟨S1x33, .i32⟩
  | .local _ .vmem, ⟨5, _⟩ => ⟨S1x33, .i32⟩
  | .local _ .vmem, ⟨6, _⟩ => ⟨S1x33, .i32⟩
  | .local _ .vmem, ⟨7, _⟩ => ⟨S1024x256, .f32⟩
  | .local _ .vmem, ⟨8, _⟩ => ⟨S33x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | _, _ => ⟨S16384x33, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_cst : Ref sig .tc := ⟨.hbm, 17, rfl⟩
abbrev main_cst_0 : Ref sig .tc := ⟨.hbm, 18, rfl⟩
abbrev main_cst_1 : Ref sig .tc := ⟨.hbm, 19, rfl⟩
abbrev main_c_2 : Ref sig .tc := ⟨.hbm, 20, rfl⟩
abbrev main_c_3 : Ref sig .tc := ⟨.hbm, 21, rfl⟩
abbrev main_c_4 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_6 : Ref sig .tc := ⟨.hbm, 47, rfl⟩
abbrev main_call1_v0 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_7 : Ref sig .tc := ⟨.hbm, 53, rfl⟩
abbrev main_call2_v0 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_8 : Ref sig .tc := ⟨.hbm, 59, rfl⟩
abbrev main_call3_v0 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_9 : Ref sig .tc := ⟨.hbm, 65, rfl⟩
abbrev main_call4_v0 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_c_10 : Ref sig .tc := ⟨.hbm, 71, rfl⟩
abbrev main_call5_v0 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_c_11 : Ref sig .tc := ⟨.hbm, 77, rfl⟩
abbrev main_call6_v0 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x33 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S33x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x33 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x33 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x33 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S33x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S16384x33 : Shape := ⟨2, ![16384, 33]⟩
abbrev S512x256 : Shape := ⟨2, ![512, 256]⟩
abbrev S128x256 : Shape := ⟨2, ![128, 256]⟩
abbrev S1024x256 : Shape := ⟨2, ![1024, 256]⟩
abbrev S128x128 : Shape := ⟨2, ![128, 128]⟩
abbrev S512x512 : Shape := ⟨2, ![512, 512]⟩
abbrev S256 : Shape := ⟨1, ![256]⟩
abbrev S734x256 : Shape := ⟨2, ![734, 256]⟩
abbrev S4 : Shape := ⟨1, ![4]⟩
abbrev S2 : Shape := ⟨1, ![2]⟩
abbrev S16384x1 : Shape := ⟨2, ![16384, 1]⟩
abbrev S16384 : Shape := ⟨1, ![16384]⟩
abbrev S_ : Shape := ⟨0, ![]⟩
abbrev S16384x256 : Shape := ⟨2, ![16384, 256]⟩
abbrev S16384x128 : Shape := ⟨2, ![16384, 128]⟩
abbrev S1x256 : Shape := ⟨2, ![1, 256]⟩
abbrev S16384x512 : Shape := ⟨2, ![16384, 512]⟩
abbrev S16384x9 : Shape := ⟨2, ![16384, 9]⟩
abbrev S16384x9x1 : Shape := ⟨3, ![16384, 9, 1]⟩
abbrev S1x1x4 : Shape := ⟨3, ![1, 1, 4]⟩
abbrev S16384x9x4 : Shape := ⟨3, ![16384, 9, 4]⟩
abbrev S16384x36 : Shape := ⟨2, ![16384, 36]⟩
abbrev S16384x7 : Shape := ⟨2, ![16384, 7]⟩
abbrev S1x11 : Shape := ⟨2, ![1, 11]⟩
abbrev S16384x11 : Shape := ⟨2, ![16384, 11]⟩
abbrev S1x32 : Shape := ⟨2, ![1, 32]⟩
abbrev S16384x32 : Shape := ⟨2, ![16384, 32]⟩
abbrev S16384x2 : Shape := ⟨2, ![16384, 2]⟩
abbrev S1x2 : Shape := ⟨2, ![1, 2]⟩
abbrev S1x4 : Shape := ⟨2, ![1, 4]⟩
abbrev S16384x4 : Shape := ⟨2, ![16384, 4]⟩
abbrev S1x8 : Shape := ⟨2, ![1, 8]⟩
abbrev S16384x8 : Shape := ⟨2, ![16384, 8]⟩
abbrev S1x16 : Shape := ⟨2, ![1, 16]⟩
abbrev S16384x16 : Shape := ⟨2, ![16384, 16]⟩
abbrev S16384x7x1 : Shape := ⟨3, ![16384, 7, 1]⟩
abbrev S1x1x13 : Shape := ⟨3, ![1, 1, 13]⟩
abbrev S16384x7x13 : Shape := ⟨3, ![16384, 7, 13]⟩
abbrev S16384x91 : Shape := ⟨2, ![16384, 91]⟩
abbrev S16384x734 : Shape := ⟨2, ![16384, 734]⟩

abbrev nBuf : Space → Nat
  | .hbm => 305
  | .vmem => 0
  | .smem => 0
  | _ => 0

abbrev hbmTy0_0 (i : Nat) : BufTy := match i % 128 with
  | 0 => ⟨S16384x33, .i32⟩
  | 1 => ⟨S512x256, .f32⟩
  | 2 => ⟨S128x256, .f32⟩
  | 3 => ⟨S512x256, .f32⟩
  | 4 => ⟨S1024x256, .f32⟩
  | 5 => ⟨S128x128, .f32⟩
  | 6 => ⟨S512x512, .f32⟩
  | 7 => ⟨S512x512, .f32⟩
  | 8 => ⟨S128x256, .f32⟩
  | 9 => ⟨S256, .f32⟩
  | 10 => ⟨S512x256, .f32⟩
  | 11 => ⟨S256, .f32⟩
  | 12 => ⟨S734x256, .f32⟩
  | 13 => ⟨S256, .f32⟩
  | 14 => ⟨S256, .f32⟩
  | 15 => ⟨S256, .f32⟩
  | 16 => ⟨S4, .i32⟩
  | 17 => ⟨S2, .f32⟩
  | 18 => ⟨S16384x1, .i32⟩
  | 19 => ⟨S16384, .i32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S16384x256, .f32⟩
  | 29 => ⟨S16384x1, .i32⟩
  | 30 => ⟨S16384, .i32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S16384x1, .i32⟩
  | 39 => ⟨S16384x256, .f32⟩
  | 40 => ⟨S16384x256, .f32⟩
  | 41 => ⟨S16384x1, .i32⟩
  | 42 => ⟨S16384, .i32⟩
  | 43 => ⟨S_, .i32⟩
  | 44 => ⟨S16384, .i32⟩
  | 45 => ⟨S16384, .i1⟩
  | 46 => ⟨S_, .i32⟩
  | 47 => ⟨S16384, .i32⟩
  | 48 => ⟨S16384, .i32⟩
  | 49 => ⟨S16384, .i32⟩
  | 50 => ⟨S16384x1, .i32⟩
  | 51 => ⟨S16384x256, .f32⟩
  | 52 => ⟨S16384x256, .f32⟩
  | 53 => ⟨S16384x1, .i32⟩
  | 54 => ⟨S16384, .i32⟩
  | 55 => ⟨S_, .i32⟩
  | 56 => ⟨S16384, .i32⟩
  | 57 => ⟨S16384, .i1⟩
  | 58 => ⟨S_, .i32⟩
  | 59 => ⟨S16384, .i32⟩
  | 60 => ⟨S16384, .i32⟩
  | 61 => ⟨S16384, .i32⟩
  | 62 => ⟨S16384x1, .i32⟩
  | 63 => ⟨S16384x128, .f32⟩
  | 64 => ⟨S16384x256, .f32⟩
  | 65 => ⟨S16384x256, .f32⟩
  | 66 => ⟨S1x256, .f32⟩
  | 67 => ⟨S16384x256, .f32⟩
  | 68 => ⟨S16384x256, .f32⟩
  | 69 => ⟨S16384x1, .i32⟩
  | 70 => ⟨S16384, .i32⟩
  | 71 => ⟨S_, .i32⟩
  | 72 => ⟨S16384, .i32⟩
  | 73 => ⟨S16384, .i1⟩
  | 74 => ⟨S_, .i32⟩
  | 75 => ⟨S16384, .i32⟩
  | 76 => ⟨S16384, .i32⟩
  | 77 => ⟨S16384, .i32⟩
  | 78 => ⟨S16384x1, .i32⟩
  | 79 => ⟨S16384x512, .f32⟩
  | 80 => ⟨S16384x256, .f32⟩
  | 81 => ⟨S16384x256, .f32⟩
  | 82 => ⟨S1x256, .f32⟩
  | 83 => ⟨S16384x256, .f32⟩
  | 84 => ⟨S16384x256, .f32⟩
  | 85 => ⟨S16384x1, .i32⟩
  | 86 => ⟨S16384, .i32⟩
  | 87 => ⟨S_, .i32⟩
  | 88 => ⟨S16384, .i32⟩
  | 89 => ⟨S16384, .i1⟩
  | 90 => ⟨S_, .i32⟩
  | 91 => ⟨S16384, .i32⟩
  | 92 => ⟨S16384, .i32⟩
  | 93 => ⟨S16384, .i32⟩
  | 94 => ⟨S16384x1, .i32⟩
  | 95 => ⟨S16384x256, .f32⟩
  | 96 => ⟨S16384x256, .f32⟩
  | 97 => ⟨S16384x1, .i32⟩
  | 98 => ⟨S16384, .i32⟩
  | 99 => ⟨S_, .i32⟩
  | 100 => ⟨S16384, .i32⟩
  | 101 => ⟨S16384, .i1⟩
  | 102 => ⟨S_, .i32⟩
  | 103 => ⟨S16384, .i32⟩
  | 104 => ⟨S16384, .i32⟩
  | 105 => ⟨S16384, .i32⟩
  | 106 => ⟨S16384x1, .i32⟩
  | 107 => ⟨S16384x256, .f32⟩
  | 108 => ⟨S16384x256, .f32⟩
  | 109 => ⟨S16384x1, .i32⟩
  | 110 => ⟨S16384, .i32⟩
  | 111 => ⟨S_, .i32⟩
  | 112 => ⟨S16384, .i32⟩
  | 113 => ⟨S16384, .i1⟩
  | 114 => ⟨S_, .i32⟩
  | 115 => ⟨S16384, .i32⟩
  | 116 => ⟨S16384, .i32⟩
  | 117 => ⟨S16384, .i32⟩
  | 118 => ⟨S16384x1, .i32⟩
  | 119 => ⟨S16384x256, .f32⟩
  | 120 => ⟨S16384x256, .f32⟩
  | 121 => ⟨S16384x1, .i32⟩
  | 122 => ⟨S16384, .i32⟩
  | 123 => ⟨S_, .i32⟩
  | 124 => ⟨S16384, .i32⟩
  | 125 => ⟨S16384, .i1⟩
  | 126 => ⟨S_, .i32⟩
  | 127 => ⟨S16384, .i32⟩
  | _ => ⟨S16384x33, .i32⟩

abbrev hbmTy0_1 (i : Nat) : BufTy := match i % 128 with
  | 0 => ⟨S16384, .i32⟩
  | 1 => ⟨S16384, .i32⟩
  | 2 => ⟨S16384x1, .i32⟩
  | 3 => ⟨S16384x256, .f32⟩
  | 4 => ⟨S16384x256, .f32⟩
  | 5 => ⟨S16384x9, .i32⟩
  | 6 => ⟨S16384x9x1, .i32⟩
  | 7 => ⟨S1x1x4, .i32⟩
  | 8 => ⟨S16384x9x4, .i32⟩
  | 9 => ⟨S16384x9x4, .i32⟩
  | 10 => ⟨S16384x9x4, .i32⟩
  | 11 => ⟨S_, .i32⟩
  | 12 => ⟨S16384x9x4, .i32⟩
  | 13 => ⟨S16384x9x4, .i1⟩
  | 14 => ⟨S16384x9x4, .f32⟩
  | 15 => ⟨S16384x36, .f32⟩
  | 16 => ⟨S16384x33, .f32⟩
  | 17 => ⟨S16384x7, .i32⟩
  | 18 => ⟨S16384x1, .i32⟩
  | 19 => ⟨S16384, .i32⟩
  | 20 => ⟨S_, .i32⟩
  | 21 => ⟨S16384, .i32⟩
  | 22 => ⟨S16384, .i1⟩
  | 23 => ⟨S_, .i32⟩
  | 24 => ⟨S16384, .i32⟩
  | 25 => ⟨S16384, .i32⟩
  | 26 => ⟨S16384, .i32⟩
  | 27 => ⟨S16384x1, .i32⟩
  | 28 => ⟨S16384x512, .f32⟩
  | 29 => ⟨S16384x1, .i32⟩
  | 30 => ⟨S16384, .i32⟩
  | 31 => ⟨S16384, .f32⟩
  | 32 => ⟨S16384, .f32⟩
  | 33 => ⟨S16384, .f32⟩
  | 34 => ⟨S16384, .i32⟩
  | 35 => ⟨S_, .i32⟩
  | 36 => ⟨S16384, .i32⟩
  | 37 => ⟨S16384, .i32⟩
  | 38 => ⟨S16384x1, .i32⟩
  | 39 => ⟨S1x11, .i32⟩
  | 40 => ⟨S16384x11, .i32⟩
  | 41 => ⟨S16384x11, .i32⟩
  | 42 => ⟨S16384x11, .i1⟩
  | 43 => ⟨S16384x11, .f32⟩
  | 44 => ⟨S16384x1, .i32⟩
  | 45 => ⟨S16384, .i32⟩
  | 46 => ⟨S16384, .f32⟩
  | 47 => ⟨S16384, .f32⟩
  | 48 => ⟨S16384, .f32⟩
  | 49 => ⟨S16384, .i32⟩
  | 50 => ⟨S_, .i32⟩
  | 51 => ⟨S16384, .i32⟩
  | 52 => ⟨S16384, .i32⟩
  | 53 => ⟨S16384x1, .i32⟩
  | 54 => ⟨S1x32, .i32⟩
  | 55 => ⟨S16384x32, .i32⟩
  | 56 => ⟨S16384x32, .i32⟩
  | 57 => ⟨S16384x32, .i1⟩
  | 58 => ⟨S16384x32, .f32⟩
  | 59 => ⟨S16384x2, .i32⟩
  | 60 => ⟨S16384x2, .f32⟩
  | 61 => ⟨S1x2, .f32⟩
  | 62 => ⟨S16384x2, .f32⟩
  | 63 => ⟨S16384x2, .f32⟩
  | 64 => ⟨S16384x7, .f32⟩
  | 65 => ⟨S_, .f32⟩
  | 66 => ⟨S16384x7, .f32⟩
  | 67 => ⟨S16384x7, .f32⟩
  | 68 => ⟨S16384x1, .i32⟩
  | 69 => ⟨S16384, .i32⟩
  | 70 => ⟨S16384x1, .i32⟩
  | 71 => ⟨S1x4, .i32⟩
  | 72 => ⟨S16384x4, .i32⟩
  | 73 => ⟨S16384x4, .i32⟩
  | 74 => ⟨S16384x4, .i1⟩
  | 75 => ⟨S16384x4, .f32⟩
  | 76 => ⟨S16384x1, .i32⟩
  | 77 => ⟨S16384, .i32⟩
  | 78 => ⟨S16384x1, .i32⟩
  | 79 => ⟨S1x8, .i32⟩
  | 80 => ⟨S16384x8, .i32⟩
  | 81 => ⟨S16384x8, .i32⟩
  | 82 => ⟨S16384x8, .i1⟩
  | 83 => ⟨S16384x8, .f32⟩
  | 84 => ⟨S16384x1, .i32⟩
  | 85 => ⟨S16384, .i32⟩
  | 86 => ⟨S16384x1, .i32⟩
  | 87 => ⟨S1x16, .i32⟩
  | 88 => ⟨S16384x16, .i32⟩
  | 89 => ⟨S16384x16, .i32⟩
  | 90 => ⟨S16384x16, .i1⟩
  | 91 => ⟨S16384x16, .f32⟩
  | 92 => ⟨S16384x1, .i32⟩
  | 93 => ⟨S16384, .i32⟩
  | 94 => ⟨S16384x1, .i32⟩
  | 95 => ⟨S1x2, .i32⟩
  | 96 => ⟨S16384x2, .i32⟩
  | 97 => ⟨S16384x2, .i32⟩
  | 98 => ⟨S16384x2, .i1⟩
  | 99 => ⟨S16384x2, .f32⟩
  | 100 => ⟨S16384x1, .i32⟩
  | 101 => ⟨S16384, .i32⟩
  | 102 => ⟨S16384x1, .i32⟩
  | 103 => ⟨S1x8, .i32⟩
  | 104 => ⟨S16384x8, .i32⟩
  | 105 => ⟨S16384x8, .i32⟩
  | 106 => ⟨S16384x8, .i1⟩
  | 107 => ⟨S16384x8, .f32⟩
  | 108 => ⟨S16384x1, .i32⟩
  | 109 => ⟨S16384, .i32⟩
  | 110 => ⟨S16384x1, .i32⟩
  | 111 => ⟨S1x4, .i32⟩
  | 112 => ⟨S16384x4, .i32⟩
  | 113 => ⟨S16384x4, .i32⟩
  | 114 => ⟨S16384x4, .i1⟩
  | 115 => ⟨S16384x4, .f32⟩
  | 116 => ⟨S16384x1, .i32⟩
  | 117 => ⟨S16384, .i32⟩
  | 118 => ⟨S16384x1, .i32⟩
  | 119 => ⟨S1x2, .i32⟩
  | 120 => ⟨S16384x2, .i32⟩
  | 121 => ⟨S16384x2, .i32⟩
  | 122 => ⟨S16384x2, .i1⟩
  | 123 => ⟨S16384x2, .f32⟩
  | 124 => ⟨S16384x1, .i32⟩
  | 125 => ⟨S16384, .i32⟩
  | 126 => ⟨S16384x1, .i32⟩
  | 127 => ⟨S1x2, .i32⟩
  | _ => ⟨S16384x33, .i32⟩

abbrev hbmTy0_2 (i : Nat) : BufTy := match i % 128 with
  | 0 => ⟨S16384x2, .i32⟩
  | 1 => ⟨S16384x2, .i32⟩
  | 2 => ⟨S16384x2, .i1⟩
  | 3 => ⟨S16384x2, .f32⟩
  | 4 => ⟨S_, .i32⟩
  | 5 => ⟨S16384x7, .i32⟩
  | 6 => ⟨S16384x7, .i32⟩
  | 7 => ⟨S16384x7x1, .i32⟩
  | 8 => ⟨S1x1x13, .i32⟩
  | 9 => ⟨S16384x7x13, .i32⟩
  | 10 => ⟨S16384x7x13, .i32⟩
  | 11 => ⟨S16384x7x13, .i1⟩
  | 12 => ⟨S16384x7x13, .f32⟩
  | 13 => ⟨S16384x91, .f32⟩
  | 14 => ⟨S16384x734, .f32⟩
  | 15 => ⟨S16384x256, .f32⟩
  | 16 => ⟨S16384x256, .f32⟩
  | 17 => ⟨S1x256, .f32⟩
  | 18 => ⟨S16384x256, .f32⟩
  | 19 => ⟨S16384x256, .f32⟩
  | 20 => ⟨S_, .f32⟩
  | 21 => ⟨S16384, .f32⟩
  | 22 => ⟨S16384x1, .f32⟩
  | 23 => ⟨S_, .f32⟩
  | 24 => ⟨S16384x1, .f32⟩
  | 25 => ⟨S16384x1, .f32⟩
  | 26 => ⟨S16384x256, .f32⟩
  | 27 => ⟨S16384x256, .f32⟩
  | 28 => ⟨S16384x256, .f32⟩
  | 29 => ⟨S_, .f32⟩
  | 30 => ⟨S16384, .f32⟩
  | 31 => ⟨S16384x1, .f32⟩
  | 32 => ⟨S_, .f32⟩
  | 33 => ⟨S16384x1, .f32⟩
  | 34 => ⟨S16384x1, .f32⟩
  | 35 => ⟨S16384x256, .f32⟩
  | 36 => ⟨S16384x256, .f32⟩
  | 37 => ⟨S_, .f32⟩
  | 38 => ⟨S16384x1, .f32⟩
  | 39 => ⟨S16384x1, .f32⟩
  | 40 => ⟨S16384x1, .f32⟩
  | 41 => ⟨S16384x256, .f32⟩
  | 42 => ⟨S16384x256, .f32⟩
  | 43 => ⟨S1x256, .f32⟩
  | 44 => ⟨S16384x256, .f32⟩
  | 45 => ⟨S16384x256, .f32⟩
  | 46 => ⟨S1x256, .f32⟩
  | 47 => ⟨S16384x256, .f32⟩
  | 48 => ⟨S16384x256, .f32⟩
  | _ => ⟨S16384x33, .i32⟩

abbrev hbmTy (i : Nat) : BufTy := match i / 128 with
  | 0 => hbmTy0_0 i
  | 1 => hbmTy0_1 i
  | 2 => hbmTy0_2 i
  | _ => ⟨S16384x33, .i32⟩

abbrev bufTy : (tb : Table) → Fin (tcTables nBuf tb) → BufTy
  | .hbm, ⟨i, _⟩ => hbmTy i
  | _, _ => ⟨S16384x33, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_c_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_2 : Ref sig .tc := ⟨.hbm, 31, rfl⟩
abbrev main_v11 : Ref sig .tc := ⟨.hbm, 32, rfl⟩
abbrev main_v12 : Ref sig .tc := ⟨.hbm, 33, rfl⟩
abbrev main_c_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_c_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_8 : Ref sig .tc := ⟨.hbm, 71, rfl⟩
abbrev main_v45 : Ref sig .tc := ⟨.hbm, 72, rfl⟩
abbrev main_v46 : Ref sig .tc := ⟨.hbm, 73, rfl⟩
abbrev main_c_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_10 : Ref sig .tc := ⟨.hbm, 87, rfl⟩
abbrev main_v59 : Ref sig .tc := ⟨.hbm, 88, rfl⟩
abbrev main_v60 : Ref sig .tc := ⟨.hbm, 89, rfl⟩
abbrev main_c_11 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_12 : Ref sig .tc := ⟨.hbm, 99, rfl⟩
abbrev main_v69 : Ref sig .tc := ⟨.hbm, 100, rfl⟩
abbrev main_v70 : Ref sig .tc := ⟨.hbm, 101, rfl⟩
abbrev main_c_13 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_14 : Ref sig .tc := ⟨.hbm, 111, rfl⟩
abbrev main_v79 : Ref sig .tc := ⟨.hbm, 112, rfl⟩
abbrev main_v80 : Ref sig .tc := ⟨.hbm, 113, rfl⟩
abbrev main_c_15 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_16 : Ref sig .tc := ⟨.hbm, 123, rfl⟩
abbrev main_v89 : Ref sig .tc := ⟨.hbm, 124, rfl⟩
abbrev main_v90 : Ref sig .tc := ⟨.hbm, 125, rfl⟩
abbrev main_c_17 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_c_18 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_c_19 : Ref sig .tc := ⟨.hbm, 148, rfl⟩
abbrev main_v111 : Ref sig .tc := ⟨.hbm, 149, rfl⟩
abbrev main_v112 : Ref sig .tc := ⟨.hbm, 150, rfl⟩
abbrev main_c_20 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_c_21 : Ref sig .tc := ⟨.hbm, 163, rfl⟩
abbrev main_v124 : Ref sig .tc := ⟨.hbm, 164, rfl⟩
abbrev main_v125 : Ref sig .tc := ⟨.hbm, 165, rfl⟩
abbrev main_call0_v0 : Ref sig .tc := ⟨.hbm, 166, rfl⟩
abbrev main_call0_v1 : Ref sig .tc := ⟨.hbm, 167, rfl⟩
abbrev main_call0_v2 : Ref sig .tc := ⟨.hbm, 168, rfl⟩
abbrev main_call0_v3 : Ref sig .tc := ⟨.hbm, 169, rfl⟩
abbrev main_call0_v4 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_c_22 : Ref sig .tc := ⟨.hbm, 178, rfl⟩
abbrev main_v133 : Ref sig .tc := ⟨.hbm, 179, rfl⟩
abbrev main_v134 : Ref sig .tc := ⟨.hbm, 180, rfl⟩
abbrev main_call1_v0 : Ref sig .tc := ⟨.hbm, 181, rfl⟩
abbrev main_call1_v1 : Ref sig .tc := ⟨.hbm, 182, rfl⟩
abbrev main_call1_v2 : Ref sig .tc := ⟨.hbm, 183, rfl⟩
abbrev main_call1_v3 : Ref sig .tc := ⟨.hbm, 184, rfl⟩
abbrev main_call1_v4 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_23 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_call2_v0 : Ref sig .tc := ⟨.hbm, 198, rfl⟩
abbrev main_call2_v1 : Ref sig .tc := ⟨.hbm, 199, rfl⟩
abbrev main_call2_v2 : Ref sig .tc := ⟨.hbm, 200, rfl⟩
abbrev main_call2_v3 : Ref sig .tc := ⟨.hbm, 201, rfl⟩
abbrev main_call2_v4 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_call3_v0 : Ref sig .tc := ⟨.hbm, 206, rfl⟩
abbrev main_call3_v1 : Ref sig .tc := ⟨.hbm, 207, rfl⟩
abbrev main_call3_v2 : Ref sig .tc := ⟨.hbm, 208, rfl⟩
abbrev main_call3_v3 : Ref sig .tc := ⟨.hbm, 209, rfl⟩
abbrev main_call3_v4 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_call4_v0 : Ref sig .tc := ⟨.hbm, 214, rfl⟩
abbrev main_call4_v1 : Ref sig .tc := ⟨.hbm, 215, rfl⟩
abbrev main_call4_v2 : Ref sig .tc := ⟨.hbm, 216, rfl⟩
abbrev main_call4_v3 : Ref sig .tc := ⟨.hbm, 217, rfl⟩
abbrev main_call4_v4 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_call5_v0 : Ref sig .tc := ⟨.hbm, 222, rfl⟩
abbrev main_call5_v1 : Ref sig .tc := ⟨.hbm, 223, rfl⟩
abbrev main_call5_v2 : Ref sig .tc := ⟨.hbm, 224, rfl⟩
abbrev main_call5_v3 : Ref sig .tc := ⟨.hbm, 225, rfl⟩
abbrev main_call5_v4 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_call6_v0 : Ref sig .tc := ⟨.hbm, 230, rfl⟩
abbrev main_call6_v1 : Ref sig .tc := ⟨.hbm, 231, rfl⟩
abbrev main_call6_v2 : Ref sig .tc := ⟨.hbm, 232, rfl⟩
abbrev main_call6_v3 : Ref sig .tc := ⟨.hbm, 233, rfl⟩
abbrev main_call6_v4 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_call7_v0 : Ref sig .tc := ⟨.hbm, 238, rfl⟩
abbrev main_call7_v1 : Ref sig .tc := ⟨.hbm, 239, rfl⟩
abbrev main_call7_v2 : Ref sig .tc := ⟨.hbm, 240, rfl⟩
abbrev main_call7_v3 : Ref sig .tc := ⟨.hbm, 241, rfl⟩
abbrev main_call7_v4 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_call8_v0 : Ref sig .tc := ⟨.hbm, 246, rfl⟩
abbrev main_call8_v1 : Ref sig .tc := ⟨.hbm, 247, rfl⟩
abbrev main_call8_v2 : Ref sig .tc := ⟨.hbm, 248, rfl⟩
abbrev main_call8_v3 : Ref sig .tc := ⟨.hbm, 249, rfl⟩
abbrev main_call8_v4 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_call9_v0 : Ref sig .tc := ⟨.hbm, 254, rfl⟩
abbrev main_call9_v1 : Ref sig .tc := ⟨.hbm, 255, rfl⟩
abbrev main_call9_v2 : Ref sig .tc := ⟨.hbm, 256, rfl⟩
abbrev main_call9_v3 : Ref sig .tc := ⟨.hbm, 257, rfl⟩
abbrev main_call9_v4 : Ref sig .tc := ⟨.hbm, 258, rfl⟩
abbrev main_v167 : Ref sig .tc := ⟨.hbm, 259, rfl⟩
abbrev main_c_24 : Ref sig .tc := ⟨.hbm, 260, rfl⟩
abbrev main_v168 : Ref sig .tc := ⟨.hbm, 261, rfl⟩
abbrev main_v169 : Ref sig .tc := ⟨.hbm, 262, rfl⟩
abbrev main_call10_v0 : Ref sig .tc := ⟨.hbm, 263, rfl⟩
abbrev main_call10_v1 : Ref sig .tc := ⟨.hbm, 264, rfl⟩
abbrev main_call10_v2 : Ref sig .tc := ⟨.hbm, 265, rfl⟩
abbrev main_call10_v3 : Ref sig .tc := ⟨.hbm, 266, rfl⟩
abbrev main_call10_v4 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_cst_25 : Ref sig .tc := ⟨.hbm, 276, rfl⟩
abbrev main_v178 : Ref sig .tc := ⟨.hbm, 277, rfl⟩
abbrev main_v179 : Ref sig .tc := ⟨.hbm, 278, rfl⟩
abbrev main_cst_26 : Ref sig .tc := ⟨.hbm, 279, rfl⟩
abbrev main_v180 : Ref sig .tc := ⟨.hbm, 280, rfl⟩
abbrev main_v181 : Ref sig .tc := ⟨.hbm, 281, rfl⟩
abbrev main_v182 : Ref sig .tc := ⟨.hbm, 282, rfl⟩
abbrev main_v183 : Ref sig .tc := ⟨.hbm, 283, rfl⟩
abbrev main_v184 : Ref sig .tc := ⟨.hbm, 284, rfl⟩
abbrev main_cst_27 : Ref sig .tc := ⟨.hbm, 285, rfl⟩
abbrev main_v185 : Ref sig .tc := ⟨.hbm, 286, rfl⟩
abbrev main_v186 : Ref sig .tc := ⟨.hbm, 287, rfl⟩
abbrev main_cst_28 : Ref sig .tc := ⟨.hbm, 288, rfl⟩
abbrev main_v187 : Ref sig .tc := ⟨.hbm, 289, rfl⟩
abbrev main_v188 : Ref sig .tc := ⟨.hbm, 290, rfl⟩
abbrev main_v189 : Ref sig .tc := ⟨.hbm, 291, rfl⟩
abbrev main_v190 : Ref sig .tc := ⟨.hbm, 292, rfl⟩
abbrev main_cst_29 : Ref sig .tc := ⟨.hbm, 293, rfl⟩
abbrev main_v191 : Ref sig .tc := ⟨.hbm, 294, rfl⟩
abbrev main_v192 : Ref sig .tc := ⟨.hbm, 295, rfl⟩
abbrev main_v193 : Ref sig .tc := ⟨.hbm, 296, rfl⟩
abbrev main_v194 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩

abbrev nD : Nat := 1
abbrev τ : Topo := Topo.v7x

variable {F : FTy → Type} [FloatOps F]
-- ==== Proof.Sums.lean ====
/- Sums over the rows of a table: how a product with a row that selects a few columns reads those columns, how
   the lookup table's rows fall into segments, and how a one-hot row picks one entry. -/
module

public import Idealize.ShloMosaic.PureOps.Ideal

@[expose] public section

noncomputable section

namespace Cert.Proof.Sums

/-- A finite table read at a natural number, zero beyond its end. -/
def tab {n : ℕ} (X : Fin n → EReal) (c : ℕ) : EReal := if h : c < n then X ⟨c, h⟩ else 0

/-- Inside the table. -/
theorem tab_lt {n : ℕ} (X : Fin n → EReal) (c : ℕ) (h : c < n) : tab X c = X ⟨c, h⟩ := dif_pos h

/-- A sum over a finite type as a sum over the naturals below it. -/
theorem sum_fin {n : ℕ} (F : ℕ → EReal) : ∑ i : Fin n, F i = ∑ c ∈ Finset.range n, F c :=
  (Finset.sum_range F).symm

/-- A sum of entries, each counted when its index is the chosen one. -/
theorem sum_pick (w a : ℕ) (F : ℕ → EReal) :
    ∑ c ∈ Finset.range w, (if a = c then F c else 0) = if a < w then F a else 0 := by
  rw [Finset.sum_ite_eq]; simp

/-- A one-hot row picks its entry. -/
theorem sum_onehot (w a : ℕ) (F : ℕ → EReal) :
    ∑ c ∈ Finset.range w, (if a = c then 1 else 0) * F c = if a < w then F a else 0 := by
  rw [← sum_pick]; exact Finset.sum_congr rfl fun c _ => by split <;> simp

/-- A one-hot row shifted by an offset picks its entry, if that lies inside. -/
theorem sum_shift (off w a : ℕ) (κ : EReal) (T : ℕ → EReal) :
    ∑ c ∈ Finset.range w, (if a = off + c then κ * T c else 0)
      = if off ≤ a ∧ a < off + w then κ * T (a - off) else 0 := by
  by_cases h : off ≤ a
  · have e : ∀ c, (a = off + c) = (a - off = c) := fun c => propext (by omega)
    simp only [e, sum_pick w (a - off) fun c => κ * T c]
    exact if_congr (by omega) rfl rfl
  · rw [if_neg (by omega)]
    exact Finset.sum_eq_zero fun c _ => if_neg (by omega)

/-- A row that selects at most four columns, pairwise different below a bound, against one stretch of columns. -/
theorem sum_four (big c0 c1 c2 c3 off w : ℕ) (κ : EReal) (T : ℕ → EReal) (hw : off + w ≤ big)
    (h10 : c1 = c0 → big ≤ c1) (h20 : c2 = c0 → big ≤ c2) (h21 : c2 = c1 → big ≤ c2)
    (h30 : c3 = c0 → big ≤ c3) (h31 : c3 = c1 → big ≤ c3) (h32 : c3 = c2 → big ≤ c3) :
    ∑ c ∈ Finset.range w,
        (if ((c0 = off + c ∨ c1 = off + c) ∨ c2 = off + c) ∨ c3 = off + c then κ else 0) * T c
      = (((if off ≤ c0 ∧ c0 < off + w then κ * T (c0 - off) else 0)
          + (if off ≤ c1 ∧ c1 < off + w then κ * T (c1 - off) else 0))
          + (if off ≤ c2 ∧ c2 < off + w then κ * T (c2 - off) else 0))
          + (if off ≤ c3 ∧ c3 < off + w then κ * T (c3 - off) else 0) := by
  simp only [← sum_shift, ← Finset.sum_add_distrib]
  refine Finset.sum_congr rfl fun c hc => ?_
  have hc := Finset.mem_range.1 hc
  by_cases e0 : c0 = off + c
  · have e1 : c1 ≠ off + c := by omega
    have e2 : c2 ≠ off + c := by omega
    have e3 : c3 ≠ off + c := by omega
    simp [e0, e1, e2, e3]
  by_cases e1 : c1 = off + c
  · have e2 : c2 ≠ off + c := by omega
    have e3 : c3 ≠ off + c := by omega
    simp [e0, e1, e2, e3]
  by_cases e2 : c2 = off + c
  · have e3 : c3 ≠ off + c := by omega
    simp [e0, e1, e2, e3]
  by_cases e3 : c3 = off + c
  · simp [e0, e1, e2, e3]
  · simp [e0, e1, e2, e3]

/-- A sum whose terms vanish from `w` on. -/
theorem sum_pad (n w : ℕ) (h : w ≤ n) (M T : ℕ → EReal) :
    ∑ c ∈ Finset.range n, (if c < w then M c else 0) * T c = ∑ c ∈ Finset.range w, M c * T c := by
  have hs : Finset.range w ⊆ Finset.range n := fun c hc =>
    Finset.mem_range.2 (lt_of_lt_of_le (Finset.mem_range.1 hc) h)
  rw [← Finset.sum_subset hs]
  · exact Finset.sum_congr rfl fun c hc => by rw [if_pos (Finset.mem_range.1 hc)]
  · intro c _ hc
    rw [if_neg (fun hlt => hc (Finset.mem_range.2 hlt)), zero_mul]

/-- A sum over the pairs of a segment and a place in it. -/
theorem sum_segments (a b : ℕ) (F : ℕ → EReal) :
    ∑ r ∈ Finset.range (b * a), F r = ∑ i ∈ Finset.range a, ∑ v ∈ Finset.range b, F (b * i + v) := by
  induction a with
  | zero => simp
  | succ a ih => rw [Nat.mul_succ, Finset.sum_range_add, ih, Finset.sum_range_succ]

/-- The lookup table's rows: eight segments of 64, twenty-five of 16, and the rest. -/
theorem sum_rows (F : ℕ → EReal) :
    ∑ r ∈ Finset.range 1024, F r
      = ((∑ i ∈ Finset.range 8, ∑ v ∈ Finset.range 64, F (64 * i + v))
          + ∑ j ∈ Finset.range 25, ∑ s ∈ Finset.range 16, F (512 + (16 * j + s)))
          + ∑ r ∈ Finset.range 112, F (912 + r) := by
  rw [← sum_segments 8 64, ← sum_segments 25 16 fun r => F (512 + r), ← Finset.sum_range_add,
    ← Finset.sum_range_add]

/-- The reference's columns, section by section. -/
theorem sum_sections (F : ℕ → EReal) :
    ∑ c ∈ Finset.range 734, F c
      = ((((((((((((((∑ c ∈ Finset.range 512, F c) + ∑ c ∈ Finset.range 11, F (512 + c))
          + ∑ c ∈ Finset.range 32, F (523 + c)) + ∑ c ∈ Finset.range 33, F (555 + c))
          + ∑ c ∈ Finset.range 2, F (588 + c)) + ∑ c ∈ Finset.range 7, F (590 + c))
          + ∑ c ∈ Finset.range 4, F (597 + c)) + ∑ c ∈ Finset.range 8, F (601 + c))
          + ∑ c ∈ Finset.range 16, F (609 + c)) + ∑ c ∈ Finset.range 2, F (625 + c))
          + ∑ c ∈ Finset.range 8, F (627 + c)) + ∑ c ∈ Finset.range 4, F (635 + c))
          + ∑ c ∈ Finset.range 2, F (639 + c)) + ∑ c ∈ Finset.range 2, F (641 + c))
          + ∑ c ∈ Finset.range 91, F (643 + c) := by
  simp only [← Finset.sum_range_add]

end Cert.Proof.Sums
-- ==== Proof.Spec.lean ====
/- The row both programs normalize: one column of one row as a function of the row's feature values and of that
   column of the tables; and the normalization of a row. -/
module

public import proofs.«01_k».proof.Proof.Sums

@[expose] public section

noncomputable section

namespace Cert.Proof.Spec

open Idealize.ShloMosaic Cert.Proof.Sums

/-- One column of every table, indexed by rows as naturals, and of the three bias vectors. -/
structure Tabs where
  W : ℕ → EReal
  sp : ℕ → EReal
  ab : ℕ → EReal
  it : ℕ → EReal
  ac : ℕ → EReal
  wab : ℕ → EReal
  wit : ℕ → EReal
  bab : EReal
  bit : EReal
  benc : EReal

/-- A one-hot of width `w` at offset `off` against the table: the entry picked, if the index lies inside. -/
def oneHot (W : ℕ → EReal) (off w a : ℕ) : EReal := if a < w then W (off + a) else 0

/-- The multipliers of the two ratio features. -/
def ratio (c : ℕ) : EReal := if c = 0 then Ideal.ofBits .f32 0x3C23D70A#32 else Ideal.ofBits .f32 0x3A802008#32

/-- The multiplier of the seven boost features. -/
def half : EReal := Ideal.ofBits .f32 0x3F000000#32

/-- A feature value as an extended real. -/
def num (v : ℕ) : EReal := ((v : ℝ) : EReal)

/-- The 33 bit columns against the table: those of the bits that are set, nine values of four bits. -/
def bits (W : ℕ → EReal) (v : ℕ → ℕ) : EReal :=
  ∑ j ∈ Finset.range 9, ∑ b ∈ Finset.range 4,
    if (v (24 + j)).testBit b = true ∧ 4 * j + b < 33 then W (555 + (4 * j + b)) else 0

/-- The seven boost values, one-hot among thirteen around zero, against the table. -/
def boosts (W : ℕ → EReal) (v : ℕ → ℕ) : EReal :=
  ∑ j ∈ Finset.range 7, if v (17 + j) < 7 then W (649 + 13 * j + v (17 + j)) else 0

/-- The 734 encoded columns against the table. -/
def codeSum (W : ℕ → EReal) (v : ℕ → ℕ) : EReal :=
  (((((((((((((W (v 0) + W (512 + (v 7).sqrt)) + W (523 + (v 8).sqrt)) + bits W v)
    + ∑ c ∈ Finset.range 2, num (v (7 + c)) * ratio c * W (588 + c))
    + ∑ j ∈ Finset.range 7, num (v (17 + j)) * half * W (590 + j))
    + oneHot W 597 4 (v 9)) + oneHot W 601 8 (v 10)) + oneHot W 609 16 (v 11)) + oneHot W 625 2 (v 12))
    + oneHot W 627 8 (v 13)) + oneHot W 635 4 (v 14)) + oneHot W 639 2 (v 15)) + oneHot W 641 2 (v 16))
    + boosts W v

/-- The row before its normalization, in the reference's order. -/
def row (T : Tabs) (v : ℕ → ℕ) : EReal :=
  (((((((((((T.sp (v 0) + T.ab (v 1)) + T.it (v 1)) + T.wab (v 1)) + T.bab) + T.wit (v 2)) + T.bit)
    + T.ac (v 3)) + T.ac (v 4)) + T.ac (v 5)) + T.ac (v 6)) + codeSum T.W v) + T.benc

end Cert.Proof.Spec
-- ==== Proof.Reads.lean ====
/- Array operations read at an index: broadcasts of a column, a row or a vector, one column of an array, a row
   of a table taken by number, a one-hot encoding, and the integer square root taken in floating point. -/
module

public import proofs.«01_k».proof.Proof.Spec
public import Idealize.ShloMosaic.Lib.Routing.Ops
public import Idealize.ShloMosaic.Lib.StackMember
public import Idealize.ShloMosaic.Lib.MatmulPlain
public import Idealize.ShloMosaic.Lib.ValueIdx
public import Idealize.ShloMosaic.Lib.IdealHost
public import Idealize.ShloMosaic.Lib.Pointwise

@[expose] public section

noncomputable section

namespace Cert.Proof.Reads

open Idealize.ShloMosaic hiding ix0 ix1 ix2 ix3
open Idealize.ShloMosaic.ValueIdx Cert.Proof.Sums Cert.Proof.Spec

variable {α : Type} {N w K : ℕ}

/-- A column broadcast along the second axis reads its row's entry. -/
theorem bcast_col (hN : N ≠ 1) (x : (⟨2, ![N, 1]⟩ : Shape).Idx → α)
    (h : (⟨2, ![N, 1]⟩ : Shape).BroadcastsInDim ⟨2, ![N, w]⟩ ![0, 1]) (n : Fin N) (c : Fin w) :
    broadcastInDim ⟨2, ![N, w]⟩ ![0, 1] h x (ix2 n c) = x (ix2 n 0) :=
  broadcastInDim_apply _ h x _ _ fun a => by
    match a with
    | ⟨0, _⟩ => show n.val = if N = 1 then 0 else n.val; rw [if_neg hN]
    | ⟨1, _⟩ => rfl

/-- A row broadcast along the first axis reads its column's entry. -/
theorem bcast_row (hw : w ≠ 1) (x : (⟨2, ![1, w]⟩ : Shape).Idx → α)
    (h : (⟨2, ![1, w]⟩ : Shape).BroadcastsInDim ⟨2, ![N, w]⟩ ![0, 1]) (n : Fin N) (c : Fin w) :
    broadcastInDim ⟨2, ![N, w]⟩ ![0, 1] h x (ix2 n c) = x (ix2 0 c) :=
  broadcastInDim_apply _ h x _ _ fun a => by
    match a with
    | ⟨0, _⟩ => rfl
    | ⟨1, _⟩ => show c.val = if w = 1 then 0 else c.val; rw [if_neg hw]

/-- A vector stood up as a column. -/
theorem bcast_stand (hN : N ≠ 1) (x : (⟨1, ![N]⟩ : Shape).Idx → α)
    (h : (⟨1, ![N]⟩ : Shape).BroadcastsInDim ⟨2, ![N, 1]⟩ ![0]) (n : Fin N) (c : Fin 1) :
    broadcastInDim ⟨2, ![N, 1]⟩ ![0] h x (ix2 n c) = x (ix1 n) :=
  broadcastInDim_apply _ h x _ _ fun a => by
    match a with
    | ⟨0, _⟩ => show n.val = if N = 1 then 0 else n.val; rw [if_neg hN]

/-- A vector laid down as a row. -/
theorem bcast_lay (hw : w ≠ 1) (x : (⟨1, ![w]⟩ : Shape).Idx → α)
    (h : (⟨1, ![w]⟩ : Shape).BroadcastsInDim ⟨2, ![1, w]⟩ ![1]) (r : Fin 1) (c : Fin w) :
    broadcastInDim ⟨2, ![1, w]⟩ ![1] h x (ix2 r c) = x (ix1 c) :=
  broadcastInDim_apply _ h x _ _ fun a => by
    match a with
    | ⟨0, _⟩ => show c.val = if w = 1 then 0 else c.val; rw [if_neg hw]

/-- A stretch of columns of an array, read at an index. -/
theorem slice_cols {M : ℕ} (j : ℕ) (x : (⟨2, ![N, M]⟩ : Shape).Idx → α)
    (h : (⟨2, ![N, M]⟩ : Shape).Slices ![0, j] ⟨2, ![N, w]⟩) (n : Fin N) (c : Fin w) (hc : j + c.val < M) :
    extractStridedSlice ⟨2, ![N, w]⟩ ![0, j] x h (ix2 n c) = x (ix2 n ⟨j + c.val, hc⟩) :=
  extractStridedSlice_apply _ x h _ _ fun a => by
    match a with
    | ⟨0, _⟩ => exact (Nat.zero_add n.val).symm
    | ⟨1, _⟩ => rfl

/-- One column of an array, as a vector. -/
theorem slice_col {M : ℕ} (j : ℕ) (x : (⟨2, ![N, M]⟩ : Shape).Idx → α)
    (h : (⟨2, ![N, M]⟩ : Shape).Slices ![0, j] ⟨2, ![N, 1]⟩)
    (hs : (⟨2, ![N, 1]⟩ : Shape).ShapeCasts ⟨1, ![N]⟩) (n : Fin N) (hj : j < M) :
    shapeCast ⟨1, ![N]⟩ (extractStridedSlice ⟨2, ![N, 1]⟩ ![0, j] x h) hs (ix1 n) = x (ix2 n ⟨j, hj⟩) := by
  rw [shapeCast_apply _ hs (ix1 n) (ix2 n 0) (by
    rw [Shape.rowMajor_val_two, Shape.rowMajor_val_one]; show n.val * 1 + 0 = n.val; omega)]
  exact slice_cols j x h n 0 hj

/-- A comparison for equality turned into a number is one or zero. -/
theorem indicator (x y : BitVec 32) :
    FloatOps.uitofp (F := Ideal) .f32 (IntOp.cmpi .eq x y) = if x = y then (1 : EReal) else 0 := by
  show (((IntOp.cmpi .eq x y).toNat : ℝ) : EReal) = _
  by_cases h : x = y
  · subst h; simp [IntOp.cmpi]
  · simp [IntOp.cmpi, h]

/-- A one-hot encoding, read at an index. -/
theorem onehot_apply (hN : N ≠ 1) (hw : w ≠ 1) (e : IVec ⟨1, ![N]⟩ 32)
    (h0 : (⟨1, ![N]⟩ : Shape).BroadcastsInDim ⟨2, ![N, 1]⟩ ![0])
    (h1 : (⟨2, ![N, 1]⟩ : Shape).BroadcastsInDim ⟨2, ![N, w]⟩ ![0, 1])
    (h2 : (⟨2, ![1, w]⟩ : Shape).BroadcastsInDim ⟨2, ![N, w]⟩ ![0, 1]) (n : Fin N) (c : Fin w) :
    uitofp (F := Ideal) .f32 (cmpi .eq
        (broadcastInDim ⟨2, ![N, w]⟩ ![0, 1] h1 (broadcastInDim ⟨2, ![N, 1]⟩ ![0] h0 e))
        (broadcastInDim ⟨2, ![N, w]⟩ ![0, 1] h2 (iotaInDim ⟨2, ![1, w]⟩ 32 1))) (ix2 n c)
      = if e (ix1 n) = BitVec.ofNat 32 c.val then (1 : EReal) else 0 := by
  show FloatOps.uitofp (F := Ideal) .f32 (IntOp.cmpi .eq (broadcastInDim _ _ h1 _ (ix2 n c))
    (broadcastInDim _ _ h2 _ (ix2 n c))) = _
  rw [bcast_col hN, bcast_stand hN, bcast_row hw, indicator]
  rfl

/-- Small words are equal exactly when the numbers they stand for are. -/
theorem word_eq {a c : ℕ} (ha : a < 2 ^ 32) (hc : c < 2 ^ 32) :
    (BitVec.ofNat 32 a = BitVec.ofNat 32 c) = (a = c) := by
  refine propext ⟨fun h => ?_, fun h => by rw [h]⟩
  have := congrArg BitVec.toNat h
  simpa only [BitVec.toNat_ofNat, Nat.mod_eq_of_lt ha, Nat.mod_eq_of_lt hc] using this

/-- A one-hot entry at a small word, by the numbers the words stand for. -/
theorem if_word {x : BitVec 32} {a c : ℕ} (hx : x = BitVec.ofNat 32 a) (ha : a < 2 ^ 32) (hc : c < 2 ^ 32) :
    (if x = BitVec.ofNat 32 c then (1 : EReal) else 0) = if a = c then 1 else 0 :=
  if_congr (by rw [hx, word_eq ha hc]) rfl rfl

/-- The index a table is taken at: a word read as nonnegative is not wrapped around. -/
theorem wrap_apply (e : IVec ⟨1, ![N]⟩ 32) (b : BitVec 32) (hN : N ≠ 1)
    (h0 : (⟨0, ![]⟩ : Shape).BroadcastsInDim ⟨1, ![N]⟩ ![])
    (h1 : (⟨1, ![N]⟩ : Shape).BroadcastsInDim ⟨2, ![N, 1]⟩ ![0]) (n : Fin N) (hv : (e (ix1 n)).toNat < 64) :
    broadcastInDim ⟨2, ![N, 1]⟩ ![0] h1 (select (cmpi .slt e (broadcastInDim ⟨1, ![N]⟩ ![] h0 (constantI ⟨0, ![]⟩ 32 0#32)))
      (addi e (broadcastInDim ⟨1, ![N]⟩ ![] h0 (constantI ⟨0, ![]⟩ 32 b))) e) (ix2 n 0)
      = BitVec.ofNat 32 (e (ix1 n)).toNat := by
  rw [bcast_stand hN, select_apply]
  have : cmpi .slt e (broadcastInDim ⟨1, ![N]⟩ ![] h0 (constantI ⟨0, ![]⟩ 32 0#32)) (ix1 n) = 0#1 := by
    show IntOp.cmpi .slt (e (ix1 n)) 0#32 = 0#1
    have : ¬ (e (ix1 n)).toInt < 0 := by rw [BitVec.toInt_eq_toNat_of_lt (by omega)]; omega
    simp [IntOp.cmpi, BitVec.slt, this]
  rw [this, select_zero]
  simp

/-- The floating-point square root of a small number, rounded down and read as an integer, capped. -/
theorem isqrt_word (x : BitVec 32) (hv : x.toNat < 64) (K : BitVec 32) (hK : K = 10#32 ∨ K = 31#32) :
    IntOp.minsi (Ideal.fptosi 32 (Ideal.liftRound Int.floor (Ideal.sqrt (((x.toInt : ℤ) : ℝ) : EReal)))) K
      = BitVec.ofNat 32 x.toNat.sqrt := by
  rw [BitVec.toInt_eq_toNat_of_lt (by omega)]
  generalize x.toNat = v at hv
  have h0 : ¬ (((v : ℤ) : ℝ) < 0) := by push_cast; exact not_lt.2 (Nat.cast_nonneg v)
  have hs : Ideal.sqrt ((((v : ℤ) : ℝ)) : EReal) = ((√(v : ℝ) : ℝ) : EReal) := by
    show (if ((v : ℤ) : ℝ) < 0 then (⊥ : EReal) else ((√((v : ℤ) : ℝ) : ℝ) : EReal)) = _
    rw [if_neg h0]; simp
  have hf : Ideal.liftRound Int.floor ((√(v : ℝ) : ℝ) : EReal) = (((v.sqrt : ℕ) : ℝ) : EReal) := by
    show (((⌊√(v : ℝ)⌋ : ℤ) : ℝ) : EReal) = _
    rw [Real.floor_real_sqrt_eq_nat_sqrt]; simp
  rw [hs, hf, Ideal.fptosi, Ideal.toIntClamped_coe, if_pos (Nat.cast_nonneg _), Int.floor_natCast]
  have hb : v.sqrt < 8 := Nat.sqrt_lt.2 (by omega)
  generalize v.sqrt = s at hb
  rcases hK with rfl | rfl <;> interval_cases s <;> rfl

/-- A sum over a finite type of products of two tables. -/
theorem sum_tab (X Y : Fin K → EReal) : ∑ i, X i * Y i = ∑ c ∈ Finset.range K, tab X c * tab Y c := by
  rw [Finset.sum_range]
  exact Finset.sum_congr rfl fun i _ => by rw [tab_lt X i i.isLt, tab_lt Y i i.isLt]

/-- One piece of a concatenation along the columns, read at an index. -/
theorem concat_cols {T : ℕ} (xs : List ((s : Shape) × (s.Idx → α)))
    (h : Shape.Concatenates (xs.map (·.1)) ⟨2, ![N, T]⟩ 1) (k : ℕ) (hk : k < xs.length)
    (x : (⟨2, ![N, w]⟩ : Shape).Idx → α) (hx : xs[k] = ⟨⟨2, ![N, w]⟩, x⟩) (pre : ℕ)
    (hpre : (((xs.take k).map (·.1)).map fun s =>
      if h : s.rank = (⟨2, ![N, T]⟩ : Shape).rank then s.size ((1 : Fin 2).cast h.symm) else 0).sum = pre)
    (n : Fin N) (c : Fin w) (hc : pre + c.val < T) :
    concatenate ⟨2, ![N, T]⟩ 1 xs h (ix2 n ⟨pre + c.val, hc⟩) = x (ix2 n c) :=
  concatenate_apply_piece 1 xs h _ k hk _ x hx rfl pre hpre (ix2 n c) (fun b hb => by
    match b with
    | ⟨0, _⟩ => rfl
    | ⟨1, _⟩ => exact absurd rfl hb) rfl

/-- An array of rank three with its last two axes run together, read at an index. -/
theorem cast_join {a b T : ℕ} (x : (⟨3, ![N, a, b]⟩ : Shape).Idx → α)
    (h : (⟨3, ![N, a, b]⟩ : Shape).ShapeCasts ⟨2, ![N, T]⟩) (hT : T = a * b) (n : Fin N) (j : Fin a) (m : Fin b)
    (hc : b * j.val + m.val < T) :
    shapeCast ⟨2, ![N, T]⟩ x h (ix2 n ⟨b * j.val + m.val, hc⟩) = x (ix3 n j m) :=
  shapeCast_apply x h _ _ (by
    rw [Shape.rowMajor_val_two, Shape.rowMajor_val_three]
    show (n.val * a + j.val) * b + m.val = n.val * T + (b * j.val + m.val)
    subst hT; ring)

/-- An array broadcast along a new last axis. -/
theorem bcast_last {a b : ℕ} (hN : N ≠ 1) (ha : a ≠ 1) (x : (⟨2, ![N, a]⟩ : Shape).Idx → α)
    (h1 : (⟨2, ![N, a]⟩ : Shape).BroadcastsInDim ⟨3, ![N, a, 1]⟩ ![0, 1])
    (h2 : (⟨3, ![N, a, 1]⟩ : Shape).BroadcastsInDim ⟨3, ![N, a, b]⟩ ![0, 1, 2]) (n : Fin N) (j : Fin a) (m : Fin b) :
    broadcastInDim ⟨3, ![N, a, b]⟩ ![0, 1, 2] h2 (broadcastInDim ⟨3, ![N, a, 1]⟩ ![0, 1] h1 x) (ix3 n j m)
      = x (ix2 n j) := by
  rw [broadcastInDim_apply _ h2 _ (ix3 n j m) (ix3 n j 0) fun k => by
      match k with
      | ⟨0, _⟩ => show n.val = if N = 1 then 0 else n.val; rw [if_neg hN]
      | ⟨1, _⟩ => show j.val = if a = 1 then 0 else j.val; rw [if_neg ha]
      | ⟨2, _⟩ => rfl,
    broadcastInDim_apply _ h1 _ (ix3 n j 0) (ix2 n j) fun k => by
      match k with
      | ⟨0, _⟩ => show n.val = if N = 1 then 0 else n.val; rw [if_neg hN]
      | ⟨1, _⟩ => show j.val = if a = 1 then 0 else j.val; rw [if_neg ha]]

/-- A vector along the last of three axes. -/
theorem bcast_along {a b : ℕ} (hb : b ≠ 1) (x : (⟨3, ![1, 1, b]⟩ : Shape).Idx → α)
    (h : (⟨3, ![1, 1, b]⟩ : Shape).BroadcastsInDim ⟨3, ![N, a, b]⟩ ![0, 1, 2]) (n : Fin N) (j : Fin a) (m : Fin b) :
    broadcastInDim ⟨3, ![N, a, b]⟩ ![0, 1, 2] h x (ix3 n j m) = x (ix3 0 0 m) :=
  broadcastInDim_apply _ h x _ _ fun k => by
    match k with
    | ⟨0, _⟩ => rfl
    | ⟨1, _⟩ => rfl
    | ⟨2, _⟩ => show m.val = if b = 1 then 0 else m.val; rw [if_neg hb]

/-- A vector stood along the last of three axes. -/
theorem bcast_lay3 {b : ℕ} (hb : b ≠ 1) (x : (⟨1, ![b]⟩ : Shape).Idx → α)
    (h : (⟨1, ![b]⟩ : Shape).BroadcastsInDim ⟨3, ![1, 1, b]⟩ ![2]) (m : Fin b) :
    broadcastInDim ⟨3, ![1, 1, b]⟩ ![2] h x (ix3 0 0 m) = x (ix1 m) :=
  broadcastInDim_apply _ h x _ _ fun k => by
    match k with
    | ⟨0, _⟩ => show m.val = if b = 1 then 0 else m.val; rw [if_neg hb]

/-- A row of a table taken at a nonnegative word. -/
theorem take_row {R : ℕ} (d : GatherDims ⟨2, ![R, K]⟩ ⟨2, ![N, 1]⟩ ⟨2, ![N, K]⟩) (hoff : d.offsetDims = [1])
    (hcoll : d.collapsedSliceDims = [0]) (hob : d.operandBatchingDims = []) (hsim : d.startIndexMap = [0])
    (hivd : d.indexVectorDim = 1) (x : (⟨2, ![R, K]⟩ : Shape).Idx → α) (e : IVec ⟨1, ![N]⟩ 32) (b : BitVec 32)
    (hN : N ≠ 1) (hR : R < 2 ^ 31) (h0 : (⟨0, ![]⟩ : Shape).BroadcastsInDim ⟨1, ![N]⟩ ![])
    (h1 : (⟨1, ![N]⟩ : Shape).BroadcastsInDim ⟨2, ![N, 1]⟩ ![0]) (n : Fin N) (k : Fin K)
    (hv : (e (ix1 n)).toNat < 64) (hvR : (e (ix1 n)).toNat < R) :
    Host.gather d x (broadcastInDim ⟨2, ![N, 1]⟩ ![0] h1 (select (cmpi .slt e
      (broadcastInDim ⟨1, ![N]⟩ ![] h0 (constantI ⟨0, ![]⟩ 32 0#32)))
      (addi e (broadcastInDim ⟨1, ![N]⟩ ![] h0 (constantI ⟨0, ![]⟩ 32 b))) e)) (ix2 n k)
      = x (ix2 ⟨(e (ix1 n)).toNat, hvR⟩ k) :=
  Routing.gather_row d hoff hcoll hob hsim hivd x _ n k ⟨_, hvR⟩ (wrap_apply e b hN h0 h1 n hv) hR

end Cert.Proof.Reads
-- ==== Proof.RefCode.lean ====
/- What the reference computes before its normalization, at a row and a column: the sum of the table rows its
   feature values take and of its encoded columns against the table. -/
module

public import proofs.«01_k».proof.Proof.Reads
public import proofs.«01_k».proof.Proof.Gen.ReferenceIdeal.Run

@[expose] public section

noncomputable section

namespace Cert.Proof.Ref

open Idealize.ShloMosaic hiding ix0 ix1 ix2 ix3
open Idealize.ShloMosaic.ValueIdx Idealize.SL.Sem Cert.ReferenceIdeal Cert.ReferenceIdeal.Gen Cert.ReferenceIdeal.Value
open Cert.Proof.Sums Cert.Proof.Spec Cert.Proof.Reads

/-- The reference's buffers. -/
local notation "Mem" => Valuation τ sig (Elt Ideal)

/-- The feature words. -/
def E (V : Mem) : S16384x33.Idx → BitVec 32 := V (Proc.devRef .tc main_arg0)

/-- The value of a feature in a row. -/
def feat (V : Mem) (n : Fin 16384) (f : ℕ) : ℕ := if h : f < 33 then (E V (ix2 n ⟨f, h⟩)).toNat else 0

/-- Column `k` of a table, read at a row as a natural. -/
def colOf {R : ℕ} (x : (⟨2, ![R, 256]⟩ : Shape).Idx → EReal) (k : Fin 256) : ℕ → EReal := tab fun r => x (ix2 r k)

/-- Column `k` of the tables and bias vectors. -/
def tabs (V : Mem) (k : Fin 256) : Tabs where
  W := colOf (R := 734) (V (Proc.devRef .tc main_arg12)) k
  sp := colOf (R := 512) (V (Proc.devRef .tc main_arg1)) k
  ab := colOf (R := 128) (V (Proc.devRef .tc main_arg2)) k
  it := colOf (R := 512) (V (Proc.devRef .tc main_arg3)) k
  ac := colOf (R := 1024) (V (Proc.devRef .tc main_arg4)) k
  wab := colOf (R := 128) (V (Proc.devRef .tc main_arg8)) k
  wit := colOf (R := 512) (V (Proc.devRef .tc main_arg10)) k
  bab := (V (Proc.devRef .tc main_arg9) : S256.Idx → EReal) (ix1 k)
  bit := (V (Proc.devRef .tc main_arg11) : S256.Idx → EReal) (ix1 k)
  benc := (V (Proc.devRef .tc main_arg13) : S256.Idx → EReal) (ix1 k)

/-- The first rows of a table are those of the identity. -/
def EyeTop {R : ℕ} (x : (⟨2, ![R, R]⟩ : Shape).Idx → EReal) : Prop :=
  ∀ (a c : Fin R), a.val < 64 → x (ix2 a c) = if a.val = c.val then 1 else 0

/-- What the arguments satisfy: every feature value is below 64, and the three one-hot tables begin like the
    identity. -/
structure Drawn (V : Mem) : Prop where
  small : ∀ n f, (E V (ix2 n f)).toNat < 64
  ability : EyeTop (R := 128) (V (Proc.devRef .tc main_arg5))
  item : EyeTop (R := 512) (V (Proc.devRef .tc main_arg6))
  species : EyeTop (R := 512) (V (Proc.devRef .tc main_arg7))

variable (V : Mem) (hV : Drawn V) (n : Fin 16384)

theorem feat_lt (f : ℕ) (hf : f < 33) : feat V n f = (E V (ix2 n ⟨f, hf⟩)).toNat := dif_pos hf

include hV in
/-- A feature's word is that of its value. -/
theorem feat_word (f : ℕ) (hf : f < 33) : E V (ix2 n ⟨f, hf⟩) = BitVec.ofNat 32 (feat V n f) := by
  rw [feat_lt V n f hf, BitVec.ofNat_toNat, BitVec.setWidth_eq]

include hV in
/-- Every feature's value is below 64. -/
theorem feat_small (f : ℕ) : feat V n f < 64 := by
  unfold feat; split
  · exact hV.small _ _
  · omega

/-- The encoded row. -/
def code : ℕ → EReal := tab fun c : Fin 734 => (res_main_v172 V : S16384x734.Idx → EReal) (ix2 n c)

/-- One column of the features, as the reference slices it. -/
theorem feature_col (f : ℕ) (hf : f < 33) (h : S16384x33.Slices ![0, f] S16384x1) :
    shapeCast S16384 (extractStridedSlice S16384x1 ![0, f] (E V) h) shapeCasts_S16384x1_S16384 (ix1 n)
      = E V (ix2 n ⟨f, hf⟩) := slice_col f _ h _ n hf

set_option maxRecDepth 8192 in
include hV in
/-- Section 0: the species one-hot. -/
theorem sec0 (c : ℕ) (hc : c < 512) : code V n (0 + c) = if feat V n 0 = c then 1 else 0 := by
  have hb : 0 + c < 734 := by omega
  refine (tab_lt _ _ hb).trans ?_
  refine (concat_cols _ _ 0 (by show 0 < 15; omega) (w := 512) _ rfl 0 (by simp) n ⟨c, hc⟩ hb).trans ?_
  have e : (shapeCast S16384 (extractStridedSlice S16384x1 ![0, 0] (E V) slices_S16384x33_S16384x1_0_0)
      shapeCasts_S16384x1_S16384 (ix1 n)).toNat = feat V n 0 := by
    rw [feature_col V n 0 (by decide), feat_lt V n 0 (by decide)]
  have hs := feat_small V hV n 0
  refine (take_row gather_S512x512_S16384x1_S16384x512_1_0_n_n_0_1_1512 rfl rfl rfl rfl rfl _
    (res_main_v110 V) _ (by decide) (by decide) _ _ n ⟨c, hc⟩ (by unfold res_main_v110; exact e.trans_lt hs)
    (by unfold res_main_v110; exact e.trans_lt (by omega))).trans ?_
  have h := hV.species ⟨feat V n 0, by omega⟩ ⟨c, hc⟩ hs
  refine Eq.trans ?_ h
  refine congrArg (fun a => (V (Proc.devRef .tc main_arg7) : S512x512.Idx → EReal) (ix2 a ⟨c, hc⟩)) (Fin.ext ?_)
  unfold res_main_v110; exact e

set_option maxRecDepth 8192 in
include hV in
/-- Section 1: the one-hot of the square root of feature 7. -/
theorem sec1 (c : ℕ) (hc : c < 11) : code V n (512 + c) = if (feat V n 7).sqrt = c then 1 else 0 := by
  have hb : 512 + c < 734 := by omega
  refine (tab_lt _ _ hb).trans ?_
  refine (concat_cols _ _ 1 (by show 1 < 15; omega) (w := 11) _ rfl 512 (by simp) n ⟨c, hc⟩ hb).trans ?_
  refine (onehot_apply (by decide) (by decide) _ _ _ _ n ⟨c, hc⟩).trans ?_
  have hs := feat_small V hV n 7
  have e := isqrt_word (E V (ix2 n ⟨7, by decide⟩)) (hV.small _ _) 10#32 (by decide)
  rw [← feat_lt V n 7 (by decide)] at e
  have hq : (feat V n 7).sqrt < 8 := Nat.sqrt_lt.2 (by omega)
  rw [← feature_col V n 7 (by decide) slices_S16384x33_S16384x1_0_7] at e
  exact if_word e (by omega) (by omega)

set_option maxRecDepth 8192 in
include hV in
/-- Section 2: the one-hot of the square root of feature 8. -/
theorem sec2 (c : ℕ) (hc : c < 32) : code V n (523 + c) = if (feat V n 8).sqrt = c then 1 else 0 := by
  have hb : 523 + c < 734 := by omega
  refine (tab_lt _ _ hb).trans ?_
  refine (concat_cols _ _ 2 (by show 2 < 15; omega) (w := 32) _ rfl 523 (by simp) n ⟨c, hc⟩ hb).trans ?_
  refine (onehot_apply (by decide) (by decide) _ _ _ _ n ⟨c, hc⟩).trans ?_
  have hs := feat_small V hV n 8
  have e := isqrt_word (E V (ix2 n ⟨8, by decide⟩)) (hV.small _ _) 31#32 (by decide)
  rw [← feat_lt V n 8 (by decide)] at e
  have hq : (feat V n 8).sqrt < 8 := Nat.sqrt_lt.2 (by omega)
  rw [← feature_col V n 8 (by decide) slices_S16384x33_S16384x1_0_8] at e
  exact if_word e (by omega) (by omega)

set_option maxRecDepth 8192 in
include hV in
/-- Section 3: the bits of features 24 to 32. -/
theorem sec3 (c : ℕ) (hc : c < 33) : code V n (555 + c) = if (feat V n (24 + c / 4)).testBit (c % 4) = true then 1 else 0 := by
  have hb : 555 + c < 734 := by omega
  refine (tab_lt _ _ hb).trans ?_
  refine (concat_cols _ _ 3 (by show 3 < 15; omega) (w := 33) _ rfl 555 (by simp) n ⟨c, hc⟩ hb).trans ?_
  refine (slice_cols 0 _ _ n ⟨c, hc⟩ (by show 0 + c < 36; omega)).trans ?_
  have hj : c / 4 < 9 := by omega
  have hm : c % 4 < 4 := by omega
  have hcm : 4 * (c / 4) + c % 4 = c := by omega
  have hix : (⟨0 + c, by omega⟩ : Fin 36) = ⟨4 * (⟨c / 4, hj⟩ : Fin 9).val + (⟨c % 4, hm⟩ : Fin 4).val, by show 4 * (c / 4) + c % 4 < 36; omega⟩ :=
    Fin.ext (by show 0 + c = 4 * (c / 4) + c % 4; omega)
  refine (congrArg (fun i => (shapeCast S16384x36 _ shapeCasts_S16384x9x4_S16384x36 : S16384x36.Idx → EReal) (ix2 n i)) hix).trans ?_
  refine (cast_join _ _ rfl n ⟨c / 4, hj⟩ ⟨c % 4, hm⟩ _).trans ?_
  have key : ∀ v < 64, ∀ b : Fin 4, (BitVec.ofNat 32 v &&& lit0 b ≠ 0#32) = (v.testBit b.val = true) := by
    intro v hv b; refine propext ?_; revert v b; decide +kernel
  have hw : E V (ix2 n ⟨24 + c / 4, by omega⟩) = BitVec.ofNat 32 (feat V n (24 + c / 4)) :=
    feat_word V hV n (24 + c / 4) (by omega)
  have hA := bcast_last (N := 16384) (a := 9) (b := 4) (by decide) (by decide)
    (extractStridedSlice S16384x9 ![0, 24] (E V) slices_S16384x33_S16384x9_0_24)
    bcast_S16384x9_S16384x9x1_0_1 bcast_S16384x9x1_S16384x9x4_0_1_2 n ⟨c / 4, hj⟩ ⟨c % 4, hm⟩
  rw [slice_cols 24 _ slices_S16384x33_S16384x9_0_24 n ⟨c / 4, hj⟩ (by show 24 + c / 4 < 33; omega)] at hA
  have hB := (bcast_along (N := 16384) (a := 9) (b := 4) (by decide)
    (broadcastInDim S1x1x4 ![2] bcast_S4_S1x1x4_2 (fun i => lit0 (S4.rowMajor i))) bcast_S1x1x4_S16384x9x4_0_1_2
    n ⟨c / 4, hj⟩ ⟨c % 4, hm⟩).trans (bcast_lay3 (by decide) _ bcast_S4_S1x1x4_2 ⟨c % 4, hm⟩)
  have hrm : S4.rowMajor (ix1 ⟨c % 4, hm⟩) = ⟨c % 4, hm⟩ := Fin.ext (Shape.rowMajor_val_one _)
  have hBC : ∀ x y : BitVec 32, FloatOps.uitofp (F := Ideal) .f32 (IntOp.cmpi .ne x y) = if x ≠ y then (1 : EReal) else 0 := by
    intro x y
    show (((IntOp.cmpi .ne x y).toNat : ℝ) : EReal) = _
    by_cases h : x = y
    · subst h; simp [IntOp.cmpi]
    · simp [IntOp.cmpi, h]
  refine (hBC _ _).trans ?_
  have hK := key _ (feat_small V hV n (24 + c / 4)) ⟨c % 4, hm⟩
  rw [← hw] at hK
  refine if_congr (Iff.trans (iff_of_eq (congrArg (fun x : BitVec 32 => x ≠ 0#32) ?_)) (iff_of_eq hK)) rfl rfl
  exact congrArg₂ (fun x y : BitVec 32 => x &&& y) hA (hB.trans (congrArg lit0 hrm))

include hV in
/-- A feature's word, read as a signed integer, is its value. -/
theorem num_word (f : ℕ) (hf : f < 33) : (((E V (ix2 n ⟨f, hf⟩)).toInt : ℝ) : EReal) = num (feat V n f) := by
  have hs := hV.small n ⟨f, hf⟩
  rw [BitVec.toInt_eq_toNat_of_lt (by omega), feat_lt V n f hf, num]
  simp

set_option maxRecDepth 8192 in
include hV in
/-- Section 4: the two ratio features. -/
theorem sec4 (c : ℕ) (hc : c < 2) : code V n (588 + c) = num (feat V n (7 + c)) * ratio c := by
  have hb : 588 + c < 734 := by omega
  refine (tab_lt _ _ hb).trans ?_
  refine (concat_cols _ _ 4 (by show 4 < 15; omega) (w := 2) _ rfl 588 (by simp) n ⟨c, hc⟩ hb).trans ?_
  have h1 := slice_cols 7 (E V) slices_S16384x33_S16384x2_0_7 n ⟨c, hc⟩ (by show 7 + c < 33; omega)
  have h2 := (bcast_row (N := 16384) (by decide) (broadcastInDim S1x2 ![1] bcast_S2_S1x2_1
    (fun i => FloatOps.ofBits (F := Ideal) .f32 (lit1 (S2.rowMajor i)))) bcast_S1x2_S16384x2_0_1 n ⟨c, hc⟩).trans
    (bcast_lay (by decide) _ bcast_S2_S1x2_1 0 ⟨c, hc⟩)
  have hrm : S2.rowMajor (ix1 ⟨c, hc⟩) = ⟨c, hc⟩ := Fin.ext (Shape.rowMajor_val_one _)
  have h3 : Ideal.ofBits .f32 (lit1 (S2.rowMajor (ix1 ⟨c, hc⟩))) = ratio c := by
    rw [hrm]
    have : c = 0 ∨ c = 1 := by omega
    rcases this with rfl | rfl
    · exact (if_pos rfl).symm
    · exact (if_neg one_ne_zero).symm
  have h4 := (congrArg (fun x : BitVec 32 => ((x.toInt : ℝ) : EReal)) h1).trans (num_word V hV n (7 + c) (by omega))
  exact congrArg₂ (fun a b : EReal => a * b) h4 (h2.trans h3)

set_option maxRecDepth 8192 in
include hV in
/-- Section 5: the seven boost features, as numbers. -/
theorem sec5 (c : ℕ) (hc : c < 7) : code V n (590 + c) = num (feat V n (17 + c)) * half := by
  have hb : 590 + c < 734 := by omega
  refine (tab_lt _ _ hb).trans ?_
  refine (concat_cols _ _ 5 (by show 5 < 15; omega) (w := 7) _ rfl 590 (by simp) n ⟨c, hc⟩ hb).trans ?_
  have h1 := slice_cols 17 (E V) slices_S16384x33_S16384x7_0_17 n ⟨c, hc⟩ (by show 17 + c < 33; omega)
  have h4 := (congrArg (fun x : BitVec 32 => ((x.toInt : ℝ) : EReal)) h1).trans (num_word V hV n (17 + c) (by omega))
  exact congrArg (fun a : EReal => a * half) h4

set_option maxRecDepth 8192 in
include hV in
/-- Section 6: the one-hot of feature 9. -/
theorem sec6 (c : ℕ) (hc : c < 4) : code V n (597 + c) = if feat V n 9 = c then 1 else 0 := by
  have hb : 597 + c < 734 := by omega
  refine (tab_lt _ _ hb).trans ?_
  refine (concat_cols _ _ 6 (by show 6 < 15; omega) (w := 4) _ rfl 597 (by simp) n ⟨c, hc⟩ hb).trans ?_
  refine (onehot_apply (by decide) (by decide) _ _ _ _ n ⟨c, hc⟩).trans ?_
  exact if_word ((feature_col V n 9 (by decide) slices_S16384x33_S16384x1_0_9).trans (feat_word V hV n 9 (by decide)))
    (by have := feat_small V hV n 9; omega) (by omega)

set_option maxRecDepth 8192 in
include hV in
/-- Section 7: the one-hot of feature 10. -/
theorem sec7 (c : ℕ) (hc : c < 8) : code V n (601 + c) = if feat V n 10 = c then 1 else 0 := by
  have hb : 601 + c < 734 := by omega
  refine (tab_lt _ _ hb).trans ?_
  refine (concat_cols _ _ 7 (by show 7 < 15; omega) (w := 8) _ rfl 601 (by simp) n ⟨c, hc⟩ hb).trans ?_
  refine (onehot_apply (by decide) (by decide) _ _ _ _ n ⟨c, hc⟩).trans ?_
  exact if_word ((feature_col V n 10 (by decide) slices_S16384x33_S16384x1_0_10).trans (feat_word V hV n 10 (by decide)))
    (by have := feat_small V hV n 10; omega) (by omega)

set_option maxRecDepth 8192 in
include hV in
/-- Section 8: the one-hot of feature 11. -/
theorem sec8 (c : ℕ) (hc : c < 16) : code V n (609 + c) = if feat V n 11 = c then 1 else 0 := by
  have hb : 609 + c < 734 := by omega
  refine (tab_lt _ _ hb).trans ?_
  refine (concat_cols _ _ 8 (by show 8 < 15; omega) (w := 16) _ rfl 609 (by simp) n ⟨c, hc⟩ hb).trans ?_
  refine (onehot_apply (by decide) (by decide) _ _ _ _ n ⟨c, hc⟩).trans ?_
  exact if_word ((feature_col V n 11 (by decide) slices_S16384x33_S16384x1_0_11).trans (feat_word V hV n 11 (by decide)))
    (by have := feat_small V hV n 11; omega) (by omega)

set_option maxRecDepth 8192 in
include hV in
/-- Section 9: the one-hot of feature 12. -/
theorem sec9 (c : ℕ) (hc : c < 2) : code V n (625 + c) = if feat V n 12 = c then 1 else 0 := by
  have hb : 625 + c < 734 := by omega
  refine (tab_lt _ _ hb).trans ?_
  refine (concat_cols _ _ 9 (by show 9 < 15; omega) (w := 2) _ rfl 625 (by simp) n ⟨c, hc⟩ hb).trans ?_
  refine (onehot_apply (by decide) (by decide) _ _ _ _ n ⟨c, hc⟩).trans ?_
  exact if_word ((feature_col V n 12 (by decide) slices_S16384x33_S16384x1_0_12).trans (feat_word V hV n 12 (by decide)))
    (by have := feat_small V hV n 12; omega) (by omega)

set_option maxRecDepth 8192 in
include hV in
/-- Section 10: the one-hot of feature 13. -/
theorem sec10 (c : ℕ) (hc : c < 8) : code V n (627 + c) = if feat V n 13 = c then 1 else 0 := by
  have hb : 627 + c < 734 := by omega
  refine (tab_lt _ _ hb).trans ?_
  refine (concat_cols _ _ 10 (by show 10 < 15; omega) (w := 8) _ rfl 627 (by simp) n ⟨c, hc⟩ hb).trans ?_
  refine (onehot_apply (by decide) (by decide) _ _ _ _ n ⟨c, hc⟩).trans ?_
  exact if_word ((feature_col V n 13 (by decide) slices_S16384x33_S16384x1_0_13).trans (feat_word V hV n 13 (by decide)))
    (by have := feat_small V hV n 13; omega) (by omega)

set_option maxRecDepth 8192 in
include hV in
/-- Section 11: the one-hot of feature 14. -/
theorem sec11 (c : ℕ) (hc : c < 4) : code V n (635 + c) = if feat V n 14 = c then 1 else 0 := by
  have hb : 635 + c < 734 := by omega
  refine (tab_lt _ _ hb).trans ?_
  refine (concat_cols _ _ 11 (by show 11 < 15; omega) (w := 4) _ rfl 635 (by simp) n ⟨c, hc⟩ hb).trans ?_
  refine (onehot_apply (by decide) (by decide) _ _ _ _ n ⟨c, hc⟩).trans ?_
  exact if_word ((feature_col V n 14 (by decide) slices_S16384x33_S16384x1_0_14).trans (feat_word V hV n 14 (by decide)))
    (by have := feat_small V hV n 14; omega) (by omega)

set_option maxRecDepth 8192 in
include hV in
/-- Section 12: the one-hot of feature 15. -/
theorem sec12 (c : ℕ) (hc : c < 2) : code V n (639 + c) = if feat V n 15 = c then 1 else 0 := by
  have hb : 639 + c < 734 := by omega
  refine (tab_lt _ _ hb).trans ?_
  refine (concat_cols _ _ 12 (by show 12 < 15; omega) (w := 2) _ rfl 639 (by simp) n ⟨c, hc⟩ hb).trans ?_
  refine (onehot_apply (by decide) (by decide) _ _ _ _ n ⟨c, hc⟩).trans ?_
  exact if_word ((feature_col V n 15 (by decide) slices_S16384x33_S16384x1_0_15).trans (feat_word V hV n 15 (by decide)))
    (by have := feat_small V hV n 15; omega) (by omega)

set_option maxRecDepth 8192 in
include hV in
/-- Section 13: the one-hot of feature 16. -/
theorem sec13 (c : ℕ) (hc : c < 2) : code V n (641 + c) = if feat V n 16 = c then 1 else 0 := by
  have hb : 641 + c < 734 := by omega
  refine (tab_lt _ _ hb).trans ?_
  refine (concat_cols _ _ 13 (by show 13 < 15; omega) (w := 2) _ rfl 641 (by simp) n ⟨c, hc⟩ hb).trans ?_
  refine (onehot_apply (by decide) (by decide) _ _ _ _ n ⟨c, hc⟩).trans ?_
  exact if_word ((feature_col V n 16 (by decide) slices_S16384x33_S16384x1_0_16).trans (feat_word V hV n 16 (by decide)))
    (by have := feat_small V hV n 16; omega) (by omega)

set_option maxRecDepth 8192 in
include hV in
/-- Section 14: the boost features, one-hot among thirteen values around zero. -/
theorem sec14 (c : ℕ) (hc : c < 91) : code V n (643 + c) = if feat V n (17 + c / 13) + 6 = c % 13 then 1 else 0 := by
  have hb : 643 + c < 734 := by omega
  refine (tab_lt _ _ hb).trans ?_
  refine (concat_cols _ _ 14 (by show 14 < 15; omega) (w := 91) _ rfl 643 (by simp) n ⟨c, hc⟩ hb).trans ?_
  have hj : c / 13 < 7 := by omega
  have hm : c % 13 < 13 := by omega
  have hix : (⟨c, hc⟩ : Fin 91) = ⟨13 * (⟨c / 13, hj⟩ : Fin 7).val + (⟨c % 13, hm⟩ : Fin 13).val, by show 13 * (c / 13) + c % 13 < 91; omega⟩ :=
    Fin.ext (by show c = 13 * (c / 13) + c % 13; omega)
  refine (congrArg (fun i => (shapeCast S16384x91 _ shapeCasts_S16384x7x13_S16384x91 : S16384x91.Idx → EReal) (ix2 n i)) hix).trans ?_
  refine (cast_join _ _ rfl n ⟨c / 13, hj⟩ ⟨c % 13, hm⟩ _).trans ?_
  refine (indicator _ _).trans ?_
  have hs := feat_small V hV n (17 + c / 13)
  have hw : E V (ix2 n ⟨17 + c / 13, by omega⟩) = BitVec.ofNat 32 (feat V n (17 + c / 13)) :=
    feat_word V hV n (17 + c / 13) (by omega)
  have hA := bcast_last (N := 16384) (a := 7) (b := 13) (by decide) (by decide)
    (addi (res_main_v108 V) (broadcastInDim S16384x7 ![] bcast_S_S16384x7 (constantI S_ 32 6#32)))
    bcast_S16384x7_S16384x7x1_0_1 bcast_S16384x7x1_S16384x7x13_0_1_2 n ⟨c / 13, hj⟩ ⟨c % 13, hm⟩
  have h1 := slice_cols 17 (E V) slices_S16384x33_S16384x7_0_17 n ⟨c / 13, hj⟩ (by show 17 + c / 13 < 33; omega)
  have hB := bcast_along (N := 16384) (a := 7) (b := 13) (by decide) (iotaInDim S1x1x13 32 2)
    bcast_S1x1x13_S16384x7x13_0_1_2 n ⟨c / 13, hj⟩ ⟨c % 13, hm⟩
  have hR : (res_main_v108 V : S16384x7.Idx → BitVec 32) (ix2 n ⟨c / 13, hj⟩) = BitVec.ofNat 32 (feat V n (17 + c / 13)) :=
    h1.trans hw
  have hS : addi (res_main_v108 V : S16384x7.Idx → BitVec 32)
      (broadcastInDim S16384x7 ![] bcast_S_S16384x7 (constantI S_ 32 6#32)) (ix2 n ⟨c / 13, hj⟩)
        = BitVec.ofNat 32 (feat V n (17 + c / 13) + 6) := by
    refine (congrArg (fun x : BitVec 32 => x + 6#32) hR).trans ?_
    exact (BitVec.ofNat_add _ 6).symm
  have hI : iotaInDim S1x1x13 32 2 (ix3 0 0 ⟨c % 13, hm⟩) = BitVec.ofNat 32 (c % 13) := rfl
  rw [hS] at hA
  rw [hI] at hB
  rw [← if_word (x := BitVec.ofNat 32 (feat V n (17 + c / 13) + 6)) (a := feat V n (17 + c / 13) + 6) (c := c % 13) rfl
    (by omega) (by omega)]
  refine if_congr (Iff.of_eq ?_) rfl rfl
  refine congrArg₂ (fun x y : BitVec 32 => x = y) ?_ ?_
  · exact hA
  · exact hB

end Cert.Proof.Ref
-- ==== Proof.CodeSum.lean ====
/- The encoded columns against the table: each section's sum in closed form. -/
module

public import proofs.«01_k».proof.Proof.Spec

@[expose] public section

noncomputable section

namespace Cert.Proof.CodeSum

open Cert.Proof.Sums Cert.Proof.Spec

/-- A section that is a one-hot, summed against the table. -/
theorem section_onehot (X W : ℕ → EReal) (off w a : ℕ) (h : ∀ c < w, X (off + c) = if a = c then 1 else 0) :
    ∑ c ∈ Finset.range w, X (off + c) * W (off + c) = oneHot W off w a := by
  refine Eq.trans (Finset.sum_congr rfl fun c hc => ?_) (sum_onehot w a fun c => W (off + c))
  rw [h c (Finset.mem_range.1 hc)]

/-- The section of bits, summed against the table. -/
theorem section_bits (X W : ℕ → EReal) (v : ℕ → ℕ)
    (h : ∀ c < 33, X (555 + c) = if (v (24 + c / 4)).testBit (c % 4) = true then 1 else 0) :
    ∑ c ∈ Finset.range 33, X (555 + c) * W (555 + c) = bits W v := by
  have e : ∑ c ∈ Finset.range 33, X (555 + c) * W (555 + c)
      = ∑ c ∈ Finset.range (4 * 9), if (v (24 + c / 4)).testBit (c % 4) = true ∧ c < 33 then W (555 + c) else 0 := by
    have hs : Finset.range 33 ⊆ Finset.range (4 * 9) := fun c hc =>
      Finset.mem_range.2 (by have := Finset.mem_range.1 hc; omega)
    rw [← Finset.sum_subset hs]
    · refine Finset.sum_congr rfl fun c hc => ?_
      have hc := Finset.mem_range.1 hc
      rw [h c hc]
      by_cases hb : (v (24 + c / 4)).testBit (c % 4) = true
      · rw [if_pos hb, if_pos ⟨hb, hc⟩, one_mul]
      · rw [if_neg hb, if_neg (fun h => hb h.1), zero_mul]
    · intro c _ hc
      exact if_neg fun h => hc (Finset.mem_range.2 h.2)
  rw [e, sum_segments 9 4]
  refine Finset.sum_congr rfl fun j _ => Finset.sum_congr rfl fun b hb => ?_
  have hb := Finset.mem_range.1 hb
  rw [show (4 * j + b) / 4 = j by omega, show (4 * j + b) % 4 = b by omega]

/-- The section of the boosts' one-hots, summed against the table. -/
theorem section_boosts (X W : ℕ → EReal) (v : ℕ → ℕ)
    (h : ∀ c < 91, X (643 + c) = if v (17 + c / 13) + 6 = c % 13 then 1 else 0) :
    ∑ c ∈ Finset.range 91, X (643 + c) * W (643 + c) = boosts W v := by
  rw [show (91 : ℕ) = 13 * 7 from rfl, sum_segments 7 13]
  refine Finset.sum_congr rfl fun j hj => ?_
  have hj := Finset.mem_range.1 hj
  refine Eq.trans (Finset.sum_congr rfl fun m hm => ?_)
    ((sum_onehot 13 (v (17 + j) + 6) fun m => W (643 + (13 * j + m))).trans ?_)
  · have hm := Finset.mem_range.1 hm
    rw [h _ (by omega), show (13 * j + m) / 13 = j by omega, show (13 * j + m) % 13 = m by omega]
  · refine if_congr (by omega) ?_ rfl
    congr 1; omega

/-- The encoded columns against the table, from what each section holds. -/
theorem codeSum_eq (X W : ℕ → EReal) (v : ℕ → ℕ) (hv : ∀ f, v f < 64)
    (h0 : ∀ c < 512, X (0 + c) = if v 0 = c then 1 else 0)
    (h1 : ∀ c < 11, X (512 + c) = if (v 7).sqrt = c then 1 else 0)
    (h2 : ∀ c < 32, X (523 + c) = if (v 8).sqrt = c then 1 else 0)
    (h3 : ∀ c < 33, X (555 + c) = if (v (24 + c / 4)).testBit (c % 4) = true then 1 else 0)
    (h4 : ∀ c < 2, X (588 + c) = num (v (7 + c)) * ratio c)
    (h5 : ∀ c < 7, X (590 + c) = num (v (17 + c)) * half)
    (h6 : ∀ c < 4, X (597 + c) = if v 9 = c then 1 else 0)
    (h7 : ∀ c < 8, X (601 + c) = if v 10 = c then 1 else 0)
    (h8 : ∀ c < 16, X (609 + c) = if v 11 = c then 1 else 0)
    (h9 : ∀ c < 2, X (625 + c) = if v 12 = c then 1 else 0)
    (h10 : ∀ c < 8, X (627 + c) = if v 13 = c then 1 else 0)
    (h11 : ∀ c < 4, X (635 + c) = if v 14 = c then 1 else 0)
    (h12 : ∀ c < 2, X (639 + c) = if v 15 = c then 1 else 0)
    (h13 : ∀ c < 2, X (641 + c) = if v 16 = c then 1 else 0)
    (h14 : ∀ c < 91, X (643 + c) = if v (17 + c / 13) + 6 = c % 13 then 1 else 0) :
    ∑ c ∈ Finset.range 734, X c * W c = codeSum W v := by
  have q : ∀ f, (v f).sqrt < 8 := fun f => Nat.sqrt_lt.2 (by have := hv f; omega)
  have e0 : ∑ c ∈ Finset.range 512, X c * W c = W (v 0) := by
    have := section_onehot X W 0 512 (v 0) h0
    simp only [Nat.zero_add] at this
    rw [this, oneHot, if_pos (by have := hv 0; omega), Nat.zero_add]
  have e1 := section_onehot X W 512 11 _ h1
  rw [oneHot, if_pos (by have := q 7; omega)] at e1
  have e2 := section_onehot X W 523 32 _ h2
  rw [oneHot, if_pos (by have := q 8; omega)] at e2
  have e4 : ∑ c ∈ Finset.range 2, X (588 + c) * W (588 + c)
      = ∑ c ∈ Finset.range 2, num (v (7 + c)) * ratio c * W (588 + c) :=
    Finset.sum_congr rfl fun c hc => by rw [h4 c (Finset.mem_range.1 hc)]
  have e5 : ∑ c ∈ Finset.range 7, X (590 + c) * W (590 + c)
      = ∑ c ∈ Finset.range 7, num (v (17 + c)) * half * W (590 + c) :=
    Finset.sum_congr rfl fun c hc => by rw [h5 c (Finset.mem_range.1 hc)]
  rw [sum_sections, e0, e1, e2, section_bits X W v h3, e4, e5, section_onehot X W 597 4 _ h6,
    section_onehot X W 601 8 _ h7, section_onehot X W 609 16 _ h8, section_onehot X W 625 2 _ h9,
    section_onehot X W 627 8 _ h10, section_onehot X W 635 4 _ h11, section_onehot X W 639 2 _ h12,
    section_onehot X W 641 2 _ h13, section_boosts X W v h14]
  rfl

end Cert.Proof.CodeSum
-- ==== Proof.RefRow.lean ====
/- What the reference computes before its normalization is the specified row. -/
module

public import proofs.«01_k».proof.Proof.RefCode
public import proofs.«01_k».proof.Proof.CodeSum
public import Idealize.ShloMosaic.Lib.StackMember

@[expose] public section

noncomputable section

namespace Cert.Proof.Ref

open Idealize.ShloMosaic hiding ix0 ix1 ix2 ix3
open Idealize.ShloMosaic.ValueIdx Idealize.SL.Sem Cert.ReferenceIdeal Cert.ReferenceIdeal.Gen Cert.ReferenceIdeal.Value
open Cert.Proof.Sums Cert.Proof.Spec Cert.Proof.Reads

/-- The reference's buffers. -/
local notation "Mem" => Valuation τ sig (Elt Ideal)

variable (V : Mem) (hV : Drawn V) (n : Fin 16384) (k : Fin 256)

include hV in
/-- The encoded columns against the table. -/
theorem code_dot :
    (Host.dotGeneral (F := Ideal) (φ₁ := .f32) (φ₂ := .f32) dot_S16384x734_S734x256_S16384x256_1_0_0_1_n_n none (res_main_v172 V)
      (V (Proc.devRef .tc main_arg12)) : S16384x256.Idx → EReal) (ix2 n k) = codeSum (tabs V k).W (feat V n) := by
  refine (StackMember.dotGeneral_plain_apply (m := 16384) (n := 256) (k := 734) (φ₁ := .f32) (φ₂ := .f32) none
    (res_main_v172 V) (V (Proc.devRef .tc main_arg12)) n k).trans ?_
  rw [sum_tab (fun c : Fin 734 => (res_main_v172 V : S16384x734.Idx → EReal) (ix2 n c))
    (fun c : Fin 734 => (V (Proc.devRef .tc main_arg12) : S734x256.Idx → EReal) (ix2 c k))]
  exact CodeSum.codeSum_eq (code V n) (tabs V k).W (feat V n) (feat_small V hV n) (sec0 V hV n) (sec1 V hV n)
    (sec2 V hV n) (sec3 V hV n) (sec4 V hV n) (sec5 V hV n) (sec6 V hV n) (sec7 V hV n) (sec8 V hV n) (sec9 V hV n)
    (sec10 V hV n) (sec11 V hV n) (sec12 V hV n) (sec13 V hV n) (sec14 V hV n)

include hV in
/-- A table's row at a feature's value. -/
theorem take_feat {R K : ℕ} (hR : 64 ≤ R) (hR2 : R < 2 ^ 31) (x : (⟨2, ![R, K]⟩ : Shape).Idx → EReal)
    (d : GatherDims ⟨2, ![R, K]⟩ ⟨2, ![16384, 1]⟩ ⟨2, ![16384, K]⟩) (hoff : d.offsetDims = [1])
    (hcoll : d.collapsedSliceDims = [0]) (hob : d.operandBatchingDims = []) (hsim : d.startIndexMap = [0])
    (hivd : d.indexVectorDim = 1) (b : BitVec 32) (f : ℕ) (hf : f < 33) (e : IVec S16384 32)
    (he : e (ix1 n) = E V (ix2 n ⟨f, hf⟩)) (c : Fin K) :
    Host.gather d x (broadcastInDim S16384x1 ![0] bcast_S16384_S16384x1_0 (select (cmpi .slt e
      (broadcastInDim S16384 ![] bcast_S_S16384 (constantI S_ 32 0#32)))
      (addi e (broadcastInDim S16384 ![] bcast_S_S16384 (constantI S_ 32 b))) e)) (ix2 n c)
      = x (ix2 ⟨feat V n f, (feat_small V hV n f).trans_le hR⟩ c) := by
  have e1 : (e (ix1 n)).toNat = feat V n f := by rw [he, feat_lt V n f hf]
  have hs := feat_small V hV n f
  refine (take_row d hoff hcoll hob hsim hivd x e b (by decide) hR2 _ _ n c (e1.trans_lt hs)
    (e1.trans_lt (hs.trans_le hR))).trans ?_
  exact congrArg (fun a => x (ix2 a c)) (Fin.ext e1)

include hV in
/-- The same, as a column of the table. -/
theorem take_col {R : ℕ} (hR : 64 ≤ R) (hR2 : R < 2 ^ 31) (x : (⟨2, ![R, 256]⟩ : Shape).Idx → EReal)
    (d : GatherDims ⟨2, ![R, 256]⟩ ⟨2, ![16384, 1]⟩ ⟨2, ![16384, 256]⟩) (hoff : d.offsetDims = [1])
    (hcoll : d.collapsedSliceDims = [0]) (hob : d.operandBatchingDims = []) (hsim : d.startIndexMap = [0])
    (hivd : d.indexVectorDim = 1) (b : BitVec 32) (f : ℕ) (hf : f < 33) (e : IVec S16384 32)
    (he : e (ix1 n) = E V (ix2 n ⟨f, hf⟩)) :
    Host.gather d x (broadcastInDim S16384x1 ![0] bcast_S16384_S16384x1_0 (select (cmpi .slt e
      (broadcastInDim S16384 ![] bcast_S_S16384 (constantI S_ 32 0#32)))
      (addi e (broadcastInDim S16384 ![] bcast_S_S16384 (constantI S_ 32 b))) e)) (ix2 n k)
      = colOf x k (feat V n f) := by
  refine (take_feat V hV n hR hR2 x d hoff hcoll hob hsim hivd b f hf e he k).trans ?_
  exact (tab_lt (fun r => x (ix2 r k)) _ _).symm

include hV in
/-- A one-hot table's row at a feature's value, against a table: the table's row. -/
theorem dot_onehot {R : ℕ} (hR : 64 ≤ R) (hR2 : R < 2 ^ 31) (x : (⟨2, ![R, R]⟩ : Shape).Idx → EReal) (hx : EyeTop x)
    (y : (⟨2, ![R, 256]⟩ : Shape).Idx → EReal)
    (d : GatherDims ⟨2, ![R, R]⟩ ⟨2, ![16384, 1]⟩ ⟨2, ![16384, R]⟩) (hoff : d.offsetDims = [1])
    (hcoll : d.collapsedSliceDims = [0]) (hob : d.operandBatchingDims = []) (hsim : d.startIndexMap = [0])
    (hivd : d.indexVectorDim = 1) (b : BitVec 32) (f : ℕ) (hf : f < 33) (e : IVec S16384 32)
    (he : e (ix1 n) = E V (ix2 n ⟨f, hf⟩)) :
    (Host.dotGeneral (F := Ideal) (φ₁ := .f32) (φ₂ := .f32) (DotDims.plain 16384 R 256) none
      (Host.gather d x (broadcastInDim S16384x1 ![0] bcast_S16384_S16384x1_0 (select (cmpi .slt e
      (broadcastInDim S16384 ![] bcast_S_S16384 (constantI S_ 32 0#32)))
      (addi e (broadcastInDim S16384 ![] bcast_S_S16384 (constantI S_ 32 b))) e))) y) (ix2 n k)
      = colOf y k (feat V n f) := by
  refine (StackMember.dotGeneral_plain_apply (φ₁ := .f32) (φ₂ := .f32) none _ y n k).trans ?_
  have hs := feat_small V hV n f
  have hl : feat V n f < R := by omega
  rw [Finset.sum_eq_single (⟨feat V n f, hl⟩ : Fin R)]
  · rw [take_feat V hV n hR hR2 x d hoff hcoll hob hsim hivd b f hf e he, hx _ _ hs, if_pos rfl, one_mul]
    exact (tab_lt (fun r => y (ix2 r k)) _ _).symm
  · intro c _ hc
    rw [take_feat V hV n hR hR2 x d hoff hcoll hob hsim hivd b f hf e he, hx _ _ hs,
      if_neg (fun h => hc (Fin.ext h.symm)), zero_mul]
  · intro h; exact absurd (Finset.mem_univ _) h

/-- A bias vector, broadcast over the rows. -/
theorem bias_apply (b : S256.Idx → EReal) :
    broadcastInDim S16384x256 ![0, 1] bcast_S1x256_S16384x256_0_1 (broadcastInDim S1x256 ![1] bcast_S256_S1x256_1 b)
      (ix2 n k) = b (ix1 k) :=
  (bcast_row (by decide) _ _ n k).trans (bcast_lay (by decide) _ _ 0 k)

set_option maxRecDepth 8192 in
include hV in
/-- The reference's row before its normalization is the specified one. -/
theorem row_eq : (res_main_v177 V : S16384x256.Idx → EReal) (ix2 n k) = row (tabs V k) (feat V n) := by
  have s0 := take_col V hV n k (R := 512) (by decide) (by decide) (V (Proc.devRef .tc main_arg1))
    gather_S512x256_S16384x1_S16384x256_1_0_n_n_0_1_1256 rfl rfl rfl rfl rfl 512#32 0 (by decide) (res_main_v1 V)
    (feature_col V n 0 (by decide) slices_S16384x33_S16384x1_0_0)
  have s1 := take_col V hV n k (R := 128) (by decide) (by decide) (V (Proc.devRef .tc main_arg2))
    gather_S128x256_S16384x1_S16384x256_1_0_n_n_0_1_1256 rfl rfl rfl rfl rfl 128#32 1 (by decide) (res_main_v10 V)
    (feature_col V n 1 (by decide) slices_S16384x33_S16384x1_0_1)
  have s2 := take_col V hV n k (R := 512) (by decide) (by decide) (V (Proc.devRef .tc main_arg3))
    gather_S512x256_S16384x1_S16384x256_1_0_n_n_0_1_1256 rfl rfl rfl rfl rfl 512#32 1 (by decide) (res_main_v20 V)
    (feature_col V n 1 (by decide) slices_S16384x33_S16384x1_0_1)
  have s3 := dot_onehot V hV n k (R := 128) (by decide) (by decide) (V (Proc.devRef .tc main_arg5)) hV.ability
    (V (Proc.devRef .tc main_arg8))
    gather_S128x128_S16384x1_S16384x128_1_0_n_n_0_1_1128 rfl rfl rfl rfl rfl 128#32 1 (by decide) (res_main_v30 V)
    (feature_col V n 1 (by decide) slices_S16384x33_S16384x1_0_1)
  have s4 := dot_onehot V hV n k (R := 512) (by decide) (by decide) (V (Proc.devRef .tc main_arg6)) hV.item
    (V (Proc.devRef .tc main_arg10))
    gather_S512x512_S16384x1_S16384x512_1_0_n_n_0_1_1512 rfl rfl rfl rfl rfl 512#32 2 (by decide) (res_main_v44 V)
    (feature_col V n 2 (by decide) slices_S16384x33_S16384x1_0_2)
  have s5 := take_col V hV n k (R := 1024) (by decide) (by decide) (V (Proc.devRef .tc main_arg4))
    gather_S1024x256_S16384x1_S16384x256_1_0_n_n_0_1_1256 rfl rfl rfl rfl rfl 1024#32 3 (by decide) (res_main_v58 V)
    (feature_col V n 3 (by decide) slices_S16384x33_S16384x1_0_3)
  have s6 := take_col V hV n k (R := 1024) (by decide) (by decide) (V (Proc.devRef .tc main_arg4))
    gather_S1024x256_S16384x1_S16384x256_1_0_n_n_0_1_1256 rfl rfl rfl rfl rfl 1024#32 4 (by decide) (res_main_v68 V)
    (feature_col V n 4 (by decide) slices_S16384x33_S16384x1_0_4)
  have s7 := take_col V hV n k (R := 1024) (by decide) (by decide) (V (Proc.devRef .tc main_arg4))
    gather_S1024x256_S16384x1_S16384x256_1_0_n_n_0_1_1256 rfl rfl rfl rfl rfl 1024#32 5 (by decide) (res_main_v78 V)
    (feature_col V n 5 (by decide) slices_S16384x33_S16384x1_0_5)
  have s8 := take_col V hV n k (R := 1024) (by decide) (by decide) (V (Proc.devRef .tc main_arg4))
    gather_S1024x256_S16384x1_S16384x256_1_0_n_n_0_1_1256 rfl rfl rfl rfl rfl 1024#32 6 (by decide) (res_main_v88 V)
    (feature_col V n 6 (by decide) slices_S16384x33_S16384x1_0_6)
  have b9 := bias_apply n k (V (Proc.devRef .tc main_arg9))
  have b11 := bias_apply n k (V (Proc.devRef .tc main_arg11))
  have b13 := bias_apply n k (V (Proc.devRef .tc main_arg13))
  have hc := code_dot V hV n k
  exact congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
    s0 s1) s2) s3) b9) s4) b11) s5) s6) s7) s8) hc) b13

end Cert.Proof.Ref
-- ==== Proof.Norm.lean ====
/- The normalization of a row, as the kernel computes it and as the reference does. -/
module

public import proofs.«01_k».proof.Proof.Reads
public import proofs.«01_k».proof.Proof.Gen.KernelIdeal.Skeleton
public import proofs.«01_k».proof.Proof.Gen.ReferenceIdeal.Run

@[expose] public section

noncomputable section

namespace Cert.Proof.Norm

open Idealize.ShloMosaic hiding ix0 ix1 ix2 ix3
open Idealize.ShloMosaic.ValueIdx Idealize.SL.Sem Cert.Proof.Sums Cert.Proof.Spec Cert.Proof.Reads

/-- The row's length, as the programs write it. -/
def len : EReal := Ideal.ofBits .f32 0x43800000#32

/-- The small number added to the variance. -/
def eps : EReal := Ideal.ofBits .f32 0x358637BD#32

/-- A row's mean. -/
def mean (e : Fin 256 → EReal) : EReal := Ideal.div (∑ j, e j) len

/-- A row's variance. -/
def var (e : Fin 256 → EReal) : EReal := Ideal.div (∑ j, (e j - mean e) * (e j - mean e)) len

/-- A row with its mean taken off, over its standard deviation. -/
def normed (e : Fin 256 → EReal) (j : Fin 256) : EReal := (e j - mean e) * Ideal.rsqrt (var e + eps)

theorem len_eq : len = ((256 : ℝ) : EReal) := by
  simp [len, Ideal.ofBits, Ideal.ieee, -EReal.coe_mul]; norm_num

theorem eps_pos : 0 < eps := by
  simp [eps, Ideal.ofBits, Ideal.ieee, -EReal.coe_mul]

theorem sq_nonneg (x : EReal) : 0 ≤ x * x := by
  induction x with
  | bot => simp
  | top => simp
  | coe r => rw [← EReal.coe_mul]; exact EReal.coe_nonneg.2 (mul_self_nonneg r)

/-- What the square root is taken of is positive. -/
theorem var_pos (e : Fin 256 → EReal) : 0 < var e + eps := by
  have h : 0 ≤ var e := by
    unfold var Ideal.div
    rw [len_eq, if_neg (by simp)]
    refine mul_nonneg (Finset.sum_nonneg fun j _ => sq_nonneg _) ?_
    rw [← EReal.coe_inv]
    exact EReal.coe_nonneg.2 (by norm_num)
  exact lt_of_lt_of_le eps_pos (le_add_of_nonneg_left h)

/-- Dividing by the square root of a positive number is multiplying by its reciprocal square root. -/
theorem div_sqrt (d x : EReal) (hx : 0 < x) : Ideal.div d (Ideal.sqrt x) = d * Ideal.rsqrt x := by
  induction x with
  | bot => simp at hx
  | top =>
    show Ideal.div d ⊤ = d * 0
    simp [Ideal.div]
  | coe r =>
    have hr : 0 < r := EReal.coe_pos.1 hx
    have hs : Real.sqrt r ≠ 0 := (Real.sqrt_pos.2 hr).ne'
    have h1 : Ideal.sqrt (r : EReal) = ((Real.sqrt r : ℝ) : EReal) := if_neg (not_lt.2 hr.le)
    have h2 : Ideal.rsqrt (r : EReal) = (((Real.sqrt r)⁻¹ : ℝ) : EReal) :=
      (if_neg (not_lt.2 hr.le)).trans (if_neg hr.ne')
    rw [h1, h2, Ideal.div, if_neg (by simpa using hs), EReal.coe_inv]

section Kernel
open Cert.KernelIdeal Cert.KernelIdeal.Gen

/-- The kernel's column of row sums over the length, at a row. -/
theorem rowMean_apply (x : FVec Ideal S2048x256 .f32) (n : Fin 2048) :
    divf (shapeCast S2048x1 (multiReduction .add [1] S2048 x 0x00000000#32 reduces_S2048x256_S2048 (.inl rfl) rfl)
      shapeCasts_S2048_S2048x1) (broadcast S2048x1 (Scalar.ofBits (F := Ideal) .f32 0x43800000#32)) (ix2 n 0)
      = Ideal.div (∑ j : Fin 256, x (ix2 n j)) len := by
  refine congrArg (fun a => Ideal.div a len) ?_
  rw [shapeCast_apply _ shapeCasts_S2048_S2048x1 (ix2 n 0) (ix1 n) (by
    rw [Shape.rowMajor_val_two, Shape.rowMajor_val_one]; show n.val = n.val * 1 + 0; omega)]
  exact Ideal.reduceAdd_r2_a1 reduces_S2048x256_S2048 x (ix1 n)

/-- A column broadcast over the block's columns. -/
theorem col_apply (x : FVec Ideal S2048x1 .f32) (n : Fin 2048) (k : Fin 256) :
    broadcastTo S2048x256 x broadcasts_S2048x1_S2048x256 (ix2 n k) = x (ix2 n 0) :=
  broadcastTo_apply _ _ _ _ fun a => by
    match a with
    | ⟨0, _⟩ => rfl
    | ⟨1, _⟩ => rfl

/-- The kernel's normalization of the rows of a block. -/
def normK (v64 : FVec Ideal S2048x256 .f32) : FVec Ideal S2048x256 .f32 :=
  let v70 := subf v64 (broadcastTo S2048x256 (divf (shapeCast S2048x1 (multiReduction .add [1] S2048 v64 0x00000000#32
    reduces_S2048x256_S2048 (.inl rfl) rfl) shapeCasts_S2048_S2048x1)
    (broadcast S2048x1 (Scalar.ofBits (F := Ideal) .f32 0x43800000#32))) broadcasts_S2048x1_S2048x256)
  mulf v70 (broadcastTo S2048x256 (rsqrt (addf (divf (shapeCast S2048x1 (multiReduction .add [1] S2048 (mulf v70 v70)
    0x00000000#32 reduces_S2048x256_S2048 (.inl rfl) rfl) shapeCasts_S2048_S2048x1)
    (broadcast S2048x1 (Scalar.ofBits (F := Ideal) .f32 0x43800000#32)))
    (broadcast S2048x1 (Scalar.ofBits (F := Ideal) .f32 0x358637BD#32)))) broadcasts_S2048x1_S2048x256)

/-- It is the normalization of each row. -/
theorem normK_apply (x : FVec Ideal S2048x256 .f32) (n : Fin 2048) (k : Fin 256) :
    normK x (ix2 n k) = normed (fun j => x (ix2 n j)) k := by
  have h1 : ∀ j : Fin 256, subf x (broadcastTo S2048x256 (divf (shapeCast S2048x1 (multiReduction .add [1] S2048 x
      0x00000000#32 reduces_S2048x256_S2048 (.inl rfl) rfl) shapeCasts_S2048_S2048x1)
      (broadcast S2048x1 (Scalar.ofBits (F := Ideal) .f32 0x43800000#32))) broadcasts_S2048x1_S2048x256) (ix2 n j)
      = x (ix2 n j) - mean (fun j => x (ix2 n j)) := fun j =>
    congrArg (fun a : EReal => x (ix2 n j) - a) ((col_apply _ n j).trans (rowMean_apply x n))
  refine congrArg₂ (fun a b : EReal => a * b) (h1 k) ((col_apply _ n k).trans ?_)
  refine congrArg (fun a : EReal => Ideal.rsqrt (a + eps)) ((rowMean_apply _ n).trans ?_)
  exact congrArg (fun a => Ideal.div a len) (Finset.sum_congr rfl fun j _ =>
    congrArg₂ (fun a b : EReal => a * b) (h1 j) (h1 j))

end Kernel

section Reference
open Cert.ReferenceIdeal Cert.ReferenceIdeal.Gen Cert.ReferenceIdeal.Value

/-- The reference's row sums over the length. -/
def meanR (x : FVec Ideal S16384x256 .f32) : FVec Ideal S16384x1 .f32 :=
  Host.divf (broadcastInDim S16384x1 ![0] bcast_S16384_S16384x1_0 (Host.reduceAdd x (constant (F := Ideal) S_ .f32 0x00000000#32)
    reducesTo_S16384x256_S16384_d1 h_S_)) (broadcastInDim S16384x1 ![] bcast_S_S16384x1 (constant (F := Ideal) S_ .f32 0x43800000#32))

theorem zero_word : Ideal.ofBits .f32 0x00000000#32 = 0 := by
  simp [Ideal.ofBits, Ideal.ieee]

theorem meanR_apply (x : FVec Ideal S16384x256 .f32) (n : Fin 16384) :
    meanR x (ix2 n 0) = Ideal.div (∑ j : Fin 256, x (ix2 n j)) len := by
  refine congrArg (fun a => Ideal.div a len) ?_
  rw [bcast_stand (by decide)]
  refine (Ideal.hostReduceAdd_r2_a1 reducesTo_S16384x256_S16384_d1 x _ (ix1 n)).trans ?_
  exact (congrArg (fun a : EReal => a + ∑ j : Fin 256, x (ix2 n j)) zero_word).trans (zero_add _)

/-- The reference's normalization of its rows. -/
def normR (x : FVec Ideal S16384x256 .f32) : FVec Ideal S16384x256 .f32 :=
  let d := subf x (broadcastInDim S16384x256 ![0, 1] bcast_S16384x1_S16384x256_0_1 (meanR x))
  Host.divf d (broadcastInDim S16384x256 ![0, 1] bcast_S16384x1_S16384x256_0_1 (Host.sqrt (addf (meanR (mulf d d))
    (broadcastInDim S16384x1 ![] bcast_S_S16384x1 (constant (F := Ideal) S_ .f32 0x358637BD#32)))))

/-- It is the normalization of each row. -/
theorem normR_apply (x : FVec Ideal S16384x256 .f32) (n : Fin 16384) (k : Fin 256) :
    normR x (ix2 n k) = normed (fun j => x (ix2 n j)) k := by
  have h1 : ∀ j : Fin 256, subf x (broadcastInDim S16384x256 ![0, 1] bcast_S16384x1_S16384x256_0_1 (meanR x)) (ix2 n j)
      = x (ix2 n j) - mean (fun j => x (ix2 n j)) := fun j =>
    congrArg (fun a : EReal => x (ix2 n j) - a) ((bcast_col (by decide) _ _ n j).trans (meanR_apply x n))
  refine (congrArg₂ Ideal.div (h1 k) (y' := Ideal.sqrt (var (fun j => x (ix2 n j)) + eps))
    ((bcast_col (by decide) _ _ n k).trans ?_)).trans (div_sqrt _ _ (var_pos _))
  refine congrArg (fun a : EReal => Ideal.sqrt (a + eps)) ((meanR_apply _ n).trans ?_)
  exact congrArg (fun a => Ideal.div a len) (Finset.sum_congr rfl fun j _ =>
    congrArg₂ (fun a b : EReal => a * b) (h1 j) (h1 j))

end Reference

end Cert.Proof.Norm
-- ==== Proof.Tables.lean ====
/- What the kernel's literal tables hold: which columns each row of the mixing matrix selects and with what
   coefficient, which feature each row of the lookup table belongs to, and the index each such row stands for. -/
module

public import proofs.«01_k».proof.KernelIdeal
public import Idealize.ShloMosaic.PureOps.Ideal

@[expose] public section

namespace Cert.Proof.Tables

open Idealize.ShloMosaic Cert.KernelIdeal

/-- The entry that stands for "no column": minus one, read as an unsigned word. -/
def none : ℕ := 4294967295

/-- The column in slot `j` of row `r` of the mixing matrix. -/
noncomputable def col (r j : ℕ) : ℕ := (lit0t (4 * r + j)).toNat

/-- The four columns of row `r`. -/
noncomputable def cols (r : ℕ) : List ℕ := [col r 0, col r 1, col r 2, col r 3]

/-- The feature whose value the rows of 64-row segment `i` look up. -/
def src64 (i : ℕ) : ℕ := [0, 1, 2, 3, 4, 5, 6, 11].getD i 33

/-- The feature whose value the rows of 16-row segment `j` look up. -/
def src16 (j : ℕ) : ℕ :=
  [7, 8, 17, 18, 19, 20, 21, 22, 23, 24, 25, 26, 27, 28, 29, 30, 31, 32, 9, 10, 12, 13, 14, 15, 16].getD j 33

/-- The feature whose value row `r` of the lookup table is compared with; 33 is none of them. -/
def src (r : ℕ) : ℕ := if r < 512 then src64 (r / 64) else if r < 912 then src16 ((r - 512) / 16) else 33

/-- The index row `r` of the lookup table stands for. -/
def idx (r : ℕ) : ℕ := if r < 512 then r % 64 else (r - 512) % 16

/-- The single-precision word of a small natural number. -/
def natWord (v : ℕ) : BitVec 32 :=
  if v = 0 then 0 else BitVec.ofNat 32 ((127 + v.log2) * 2 ^ 23 + (v - 2 ^ v.log2) * 2 ^ (23 - v.log2))

/-- The width of the one-hot of the narrow feature at place `i`. -/
def narrowW (i : ℕ) : ℕ := [4, 8, 2, 8, 4, 2, 2].getD i 0

/-- The first column of the one-hot of the narrow feature at place `i`. -/
def narrowOff (i : ℕ) : ℕ := [597, 601, 625, 627, 635, 639, 641].getD i 0

/-- The columns of a raw feature's row: one for the features used as numbers, none for the others. -/
def rawCol (f : ℕ) : ℕ :=
  if f = 7 then 588 else if f = 8 then 589 else if 17 ≤ f ∧ f < 24 then 573 + f else none

/-- The coefficient word of a raw feature's row. -/
def rawCoef (f : ℕ) : BitVec 32 :=
  if f = 7 then 0x3C23D70A else if f = 8 then 0x3A802008 else 0x3F000000

/-- The number the feature `f` of raw value `v` is looked up by. -/
def tval (f v : ℕ) : ℕ :=
  if f = 7 ∨ f = 8 then v.sqrt else if 24 ≤ f then v % 16
  else min v ([63, 63, 63, 63, 63, 63, 63, 63, 63, 4, 8, 63, 2, 8, 4, 2, 2, 7, 7, 7, 7, 7, 7, 7].getD f 63)

/-- A row's columns are pairwise different, apart from the empty slots. -/
theorem cols_distinct : ∀ r < 1064, ∀ i < 4, ∀ j < i, col r i = col r j → col r i = none := by
  decide +kernel

/-- Rows of the species segment. -/
theorem cols_species : ∀ v < 64, cols v = [v, 734 + v, none, none] := by decide +kernel

/-- Rows of the ability segment. -/
theorem cols_ability : ∀ v < 64, cols (64 + v) = [798 + v, 862 + v, 990 + v, none] := by decide +kernel

/-- Rows of the item segment. -/
theorem cols_item : ∀ v < 64, cols (128 + v) = [1054 + v, none, none, none] := by decide +kernel

/-- Rows of the four action segments. -/
theorem cols_action : ∀ k < 4, ∀ v < 64, cols (192 + 64 * k + v) = [926 + v, none, none, none] := by decide +kernel

/-- Rows of the segment of the sixteen-wide one-hot. -/
theorem cols_wide : ∀ v < 64, cols (448 + v) = [if v < 16 then 609 + v else none, none, none, none] := by
  decide +kernel

/-- Rows of the first square-root segment. -/
theorem cols_sqrt_a : ∀ s < 8, cols (512 + s) = [512 + s, none, none, none] := by decide +kernel

/-- Rows of the second square-root segment. -/
theorem cols_sqrt_b : ∀ s < 8, cols (528 + s) = [523 + s, none, none, none] := by decide +kernel

/-- Rows of the seven boost segments. -/
theorem cols_boost : ∀ j < 7, ∀ s < 8,
    cols (544 + 16 * j + s) = [if s < 7 then 649 + 13 * j + s else none, none, none, none] := by decide +kernel

/-- Rows of the nine bit segments: the columns of the bits that are set, in order. -/
theorem cols_bits : ∀ j < 9, ∀ s < 16, cols (656 + 16 * j + s) =
    ((((List.range 4).filter fun b => s.testBit b && decide (4 * j + b < 33)).map fun b => 555 + (4 * j + b))
      ++ List.replicate 4 none).take 4 := by decide +kernel

/-- Rows of the seven narrow one-hot segments. -/
theorem cols_narrow : ∀ i < 7, ∀ s < 9,
    cols (800 + 16 * i + s) = [if s < narrowW i then narrowOff i + s else none, none, none, none] := by decide +kernel

/-- Rows of the raw features. -/
theorem cols_raw : ∀ f < 33, cols (1031 + f) = [rawCol f, none, none, none] := by decide +kernel

/-- The lookup rows that select a column do so with coefficient one. -/
theorem coef_one : ∀ r < 1024, col r 0 ≠ none → lit1t r = 0x3F800000#32 := by decide +kernel

/-- The coefficients of the raw features' rows. -/
theorem coef_raw : ∀ f < 33, rawCol f ≠ none → lit1t (1031 + f) = rawCoef f := by decide +kernel

/-- The index words of the rows in use. -/
theorem idxWord : ∀ r < 912, lit3t r = natWord (idx r) := by decide +kernel

/-- The index words of the rows not in use: minus one. -/
theorem idxWord_pad : ∀ r < 112, lit3t (912 + r) = 0xBF800000#32 := by decide +kernel

end Cert.Proof.Tables
-- ==== Proof.Mix.lean ====
/- The mixing matrix the kernel's host code builds, its products with the tables, and the rows of the lookup table these
   products make. -/
module

public import proofs.«01_k».proof.Proof.Norm
public import proofs.«01_k».proof.Proof.Tables

@[expose] public section

noncomputable section

namespace Cert.Proof.Mix

open Idealize.ShloMosaic hiding ix0 ix1 ix2 ix3
open Idealize.ShloMosaic.ValueIdx Idealize.SL.Sem Cert.Proof.Sums Cert.Proof.Spec Cert.Proof.Reads Cert.Proof.Norm
open Cert.KernelIdeal Cert.KernelIdeal.Gen Cert.Proof.Tables

/-- Where slot `j` of the column table selects a column. -/
def hit (j : ℕ) (h : S1064x4.Slices ![0, j] S1064x1) : IVec S1064x1118 1 :=
  cmpi .eq (broadcastInDim S1064x1118 ![0, 1] bcast_S1064x1_S1064x1118_0_1
    (extractStridedSlice S1064x1 ![0, j] (fun i => lit0 (S1064x4.rowMajor i)) h)) (iotaInDim S1064x1118 32 1)

/-- The mixing matrix. -/
def mixM : FVec Ideal S1064x1118 .f32 :=
  select (ori (ori (ori (hit 0 slices_S1064x4_S1064x1_0_0) (hit 1 slices_S1064x4_S1064x1_0_1))
      (hit 2 slices_S1064x4_S1064x1_0_2)) (hit 3 slices_S1064x4_S1064x1_0_3))
    (broadcastInDim S1064x1118 ![0, 1] bcast_S1064x1_S1064x1118_0_1
      (fun i => FloatOps.ofBits (F := Ideal) .f32 (lit1 (S1064x1.rowMajor i))))
    (broadcastInDim S1064x1118 ![] bcast_S_S1064x1118 (constant (F := Ideal) S_ .f32 0x00000000#32))

/-- A row's coefficient. -/
def coef (r : ℕ) : EReal := Ideal.ofBits .f32 (lit1t r)

/-- An entry of the mixing matrix. -/
def selM (r c : ℕ) : EReal :=
  if ((col r 0 = c ∨ col r 1 = c) ∨ col r 2 = c) ∨ col r 3 = c then coef r else 0

/-- A selection is a comparison of numbers. -/
theorem hit_apply (j : ℕ) (hj : j < 4) (h : S1064x4.Slices ![0, j] S1064x1) (r : Fin 1064) (c : Fin 1118) :
    hit j h (ix2 r c) = BitVec.ofBool (decide (col r j = c)) := by
  show IntOp.cmpi .eq (broadcastInDim S1064x1118 ![0, 1] bcast_S1064x1_S1064x1118_0_1
    (extractStridedSlice S1064x1 ![0, j] (fun i => lit0 (S1064x4.rowMajor i)) h) (ix2 r c)) (BitVec.ofNat 32 c) = _
  rw [bcast_col (by decide), slice_cols j _ h r 0 (by simpa using hj)]
  have e : lit0 (S1064x4.rowMajor (ix2 r ⟨j + (0 : Fin 1).val, by simpa using hj⟩)) = lit0t (4 * r + j) := by
    refine congrArg lit0t ?_
    refine (Shape.rowMajor_val_two _).trans ?_
    show r.val * 4 + (j + 0) = 4 * r.val + j
    omega
  rw [e]
  show BitVec.ofBool (decide (lit0t (4 * r + j) = BitVec.ofNat 32 c)) = _
  refine congrArg BitVec.ofBool (decide_eq_decide.2 ?_)
  unfold col
  constructor
  · intro h; rw [h, BitVec.toNat_ofNat]; exact Nat.mod_eq_of_lt (by omega)
  · intro h; rw [← h, BitVec.ofNat_toNat, BitVec.setWidth_eq]

theorem ori_bool (a b : Prop) [Decidable a] [Decidable b] :
    IntOp.ori (BitVec.ofBool (decide a)) (BitVec.ofBool (decide b)) = BitVec.ofBool (decide (a ∨ b)) := by
  by_cases ha : a <;> by_cases hb : b <;> simp [ha, hb] <;> rfl

/-- The mixing matrix, at an entry. -/
theorem mixM_apply (r : Fin 1064) (c : Fin 1118) : mixM (ix2 r c) = selM r c := by
  have h : ori (ori (ori (hit 0 slices_S1064x4_S1064x1_0_0) (hit 1 slices_S1064x4_S1064x1_0_1))
      (hit 2 slices_S1064x4_S1064x1_0_2)) (hit 3 slices_S1064x4_S1064x1_0_3) (ix2 r c)
      = BitVec.ofBool (decide (((col r 0 = c.val ∨ col r 1 = c) ∨ col r 2 = c) ∨ col r 3 = c)) := by
    rw [← ori_bool, ← ori_bool, ← ori_bool, ← hit_apply 0 (by decide) slices_S1064x4_S1064x1_0_0,
      ← hit_apply 1 (by decide) slices_S1064x4_S1064x1_0_1, ← hit_apply 2 (by decide) slices_S1064x4_S1064x1_0_2,
      ← hit_apply 3 (by decide) slices_S1064x4_S1064x1_0_3]
    rfl
  have e1 : broadcastInDim S1064x1118 ![0, 1] bcast_S1064x1_S1064x1118_0_1
      (fun i => FloatOps.ofBits (F := Ideal) .f32 (lit1 (S1064x1.rowMajor i))) (ix2 r c) = coef r := by
    rw [bcast_col (by decide)]
    refine congrArg (fun i => Ideal.ofBits .f32 (lit1t i)) ?_
    show (S1064x1.rowMajor (ix2 r 0)).val = r.val
    rw [Shape.rowMajor_val_two]
    show r.val * 1 + 0 = r.val
    omega
  unfold mixM selM
  rw [select_apply, h, e1]
  by_cases hc : ((col r 0 = c.val ∨ col r 1 = c) ∨ col r 2 = c) ∨ col r 3 = c
  · rw [if_pos hc, decide_eq_true hc]; exact select_one _ _
  · rw [if_neg hc, decide_eq_false hc]; exact (select_zero _ _).trans zero_word

/-- Sixty-four columns of the mixing matrix, padded to a table's rows and multiplied with it. -/
theorem part_apply {W : ℕ} (hW : 64 ≤ W) (off : ℕ) (hoff : off + 64 ≤ 1118) (hi : Fin 2 → ℕ)
    (h : S1064x1118.Slices ![0, off] S1064x64) (hp : S1064x64.Pads ![0, 0] hi ![0, 0] ⟨2, ![1064, W]⟩)
    (Y : (⟨2, ![W, 256]⟩ : Shape).Idx → EReal) (r : Fin 1064) (k : Fin 256) :
    (Host.dotGeneral (F := Ideal) (φ₁ := .f32) (φ₂ := .f32) (DotDims.plain 1064 W 256) none
      (pad ⟨2, ![1064, W]⟩ ![0, 0] hi ![0, 0] (extractStridedSlice S1064x64 ![0, off] mixM h)
        (sitofp (F := Ideal) .f32 (constantI S_ 32 0#32)) hp h_S_) Y) (ix2 r k)
      = ∑ c ∈ Finset.range 64, selM r (off + c) * tab (fun a => Y (ix2 a k)) c := by
  refine (StackMember.dotGeneral_plain_apply (φ₁ := .f32) (φ₂ := .f32) none _ Y r k).trans ?_
  rw [← sum_pad W 64 hW (fun c => selM r (off + c)), Finset.sum_range]
  refine Finset.sum_congr rfl fun c _ => congrArg₂ (fun a b : EReal => a * b) ?_
    (tab_lt (fun a => Y (ix2 a k)) c.val c.isLt).symm
  by_cases hc : c.val < 64
  · rw [if_pos hc, pad_apply_of_inside _ _ _ _ _ hp h_S_ (ix2 r c) (ix2 r ⟨c.val, hc⟩) fun a => by
      match a with
      | ⟨0, _⟩ => show r.val = 0 + r.val * 1; omega
      | ⟨1, _⟩ => show c.val = 0 + c.val * 1; omega]
    rw [slice_cols off mixM h r ⟨c.val, hc⟩ (by show off + c.val < 1118; omega)]
    exact mixM_apply r _
  · rw [if_neg hc, pad_apply_of_not_inside _ _ _ _ _ hp h_S_ (ix2 r c) (1 : Fin 2) fun hh => by
      have h2 : (c.val - 0) / 1 < 64 := hh.2.2
      omega]
    show (((0#32 : BitVec 32).toInt : ℝ) : EReal) = 0
    simp

/-- The first columns of the mixing matrix against the encoder's table. -/
theorem first_apply (h : S1064x1118.Slices ![0, 0] S1064x734) (Y : (⟨2, ![734, 256]⟩ : Shape).Idx → EReal)
    (r : Fin 1064) (k : Fin 256) :
    (Host.dotGeneral (F := Ideal) (φ₁ := .f32) (φ₂ := .f32) (DotDims.plain 1064 734 256) none
      (extractStridedSlice S1064x734 ![0, 0] mixM h) Y) (ix2 r k)
      = ∑ c ∈ Finset.range 734, selM r (0 + c) * tab (fun a => Y (ix2 a k)) c := by
  refine (StackMember.dotGeneral_plain_apply (φ₁ := .f32) (φ₂ := .f32) none _ Y r k).trans ?_
  rw [Finset.sum_range]
  refine Finset.sum_congr rfl fun c _ => congrArg₂ (fun a b : EReal => a * b) ?_
    (tab_lt (fun a => Y (ix2 a k)) c.val c.isLt).symm
  rw [slice_cols 0 mixM h r c (by omega)]
  exact mixM_apply r _

/-- One selected column's contribution through one stretch of columns. -/
def through (off w : ℕ) (κ : EReal) (T : ℕ → EReal) (a : ℕ) : EReal :=
  if off ≤ a ∧ a < off + w then κ * T (a - off) else 0

/-- One selected column's contribution to a row of the product. -/
def entry (T : Tabs) (κ : EReal) (a : ℕ) : EReal :=
  through 0 734 κ T.W a + through 734 64 κ T.sp a + through 798 64 κ T.ab a + through 862 64 κ T.it a
    + through 926 64 κ T.ac a + through 990 64 κ T.wab a + through 1054 64 κ T.wit a

theorem through_in {off w a : ℕ} (κ : EReal) (T : ℕ → EReal) (h : off ≤ a ∧ a < off + w) :
    through off w κ T a = κ * T (a - off) := if_pos h

theorem through_out {off w a : ℕ} (κ : EReal) (T : ℕ → EReal) (h : ¬(off ≤ a ∧ a < off + w)) :
    through off w κ T a = 0 := if_neg h

theorem entry_none (T : Tabs) (κ : EReal) : entry T κ Tables.none = 0 := by
  unfold entry Tables.none
  simp (disch := decide) only [through_out, add_zero]

theorem entry_W (T : Tabs) (κ : EReal) (a : ℕ) (h : a < 734) : entry T κ a = κ * T.W a := by
  unfold entry
  rw [through_in κ T.W (by omega)]
  simp (disch := omega) only [through_out, add_zero, Nat.sub_zero]

theorem entry_sp (T : Tabs) (κ : EReal) (a : ℕ) (h : a < 64) : entry T κ (734 + a) = κ * T.sp a := by
  unfold entry
  rw [through_in κ T.sp (by omega)]
  simp (disch := omega) only [through_out, add_zero, zero_add, Nat.add_sub_cancel_left]

theorem entry_ab (T : Tabs) (κ : EReal) (a : ℕ) (h : a < 64) : entry T κ (798 + a) = κ * T.ab a := by
  unfold entry
  rw [through_in κ T.ab (by omega)]
  simp (disch := omega) only [through_out, add_zero, zero_add, Nat.add_sub_cancel_left]

theorem entry_it (T : Tabs) (κ : EReal) (a : ℕ) (h : a < 64) : entry T κ (862 + a) = κ * T.it a := by
  unfold entry
  rw [through_in κ T.it (by omega)]
  simp (disch := omega) only [through_out, add_zero, zero_add, Nat.add_sub_cancel_left]

theorem entry_ac (T : Tabs) (κ : EReal) (a : ℕ) (h : a < 64) : entry T κ (926 + a) = κ * T.ac a := by
  unfold entry
  rw [through_in κ T.ac (by omega)]
  simp (disch := omega) only [through_out, add_zero, zero_add, Nat.add_sub_cancel_left]

theorem entry_wab (T : Tabs) (κ : EReal) (a : ℕ) (h : a < 64) : entry T κ (990 + a) = κ * T.wab a := by
  unfold entry
  rw [through_in κ T.wab (by omega)]
  simp (disch := omega) only [through_out, add_zero, zero_add, Nat.add_sub_cancel_left]

theorem entry_wit (T : Tabs) (κ : EReal) (a : ℕ) (h : a < 64) : entry T κ (1054 + a) = κ * T.wit a := by
  unfold entry
  rw [through_in κ T.wit (by omega)]
  simp (disch := omega) only [through_out, add_zero, zero_add, Nat.add_sub_cancel_left]

/-- A row of the product: the contributions of its four slots. -/
def rowOf (T : Tabs) (r : ℕ) : EReal :=
  entry T (coef r) (col r 0) + entry T (coef r) (col r 1) + entry T (coef r) (col r 2) + entry T (coef r) (col r 3)

/-- A row's selected columns against one stretch. -/
theorem stretch (r : ℕ) (hr : r < 1064) (off w : ℕ) (hw : off + w ≤ 1118) (T : ℕ → EReal) :
    ∑ c ∈ Finset.range w, selM r (off + c) * T c
      = ((through off w (coef r) T (col r 0) + through off w (coef r) T (col r 1))
        + through off w (coef r) T (col r 2)) + through off w (coef r) T (col r 3) := by
  have d : ∀ i < 4, ∀ j < i, col r i = col r j → 1118 ≤ col r i := fun i hi j hj h => by
    rw [cols_distinct r hr i hi j hj h]; decide
  exact sum_four 1118 (col r 0) (col r 1) (col r 2) (col r 3) off w (coef r) T hw
    (d 1 (by decide) 0 (by decide)) (d 2 (by decide) 0 (by decide)) (d 2 (by decide) 1 (by decide))
    (d 3 (by decide) 0 (by decide)) (d 3 (by decide) 1 (by decide)) (d 3 (by decide) 2 (by decide))

/-- The seven products' sum at a row. -/
theorem rowOf_eq (T : Tabs) (r : ℕ) (hr : r < 1064) :
    ∑ c ∈ Finset.range 734, selM r (0 + c) * T.W c + ∑ c ∈ Finset.range 64, selM r (734 + c) * T.sp c
      + ∑ c ∈ Finset.range 64, selM r (798 + c) * T.ab c + ∑ c ∈ Finset.range 64, selM r (862 + c) * T.it c
      + ∑ c ∈ Finset.range 64, selM r (926 + c) * T.ac c + ∑ c ∈ Finset.range 64, selM r (990 + c) * T.wab c
      + ∑ c ∈ Finset.range 64, selM r (1054 + c) * T.wit c = rowOf T r := by
  rw [stretch r hr 0 734 (by decide), stretch r hr 734 64 (by decide), stretch r hr 798 64 (by decide),
    stretch r hr 862 64 (by decide), stretch r hr 926 64 (by decide), stretch r hr 990 64 (by decide),
    stretch r hr 1054 64 (by decide)]
  unfold rowOf entry
  generalize coef r = κ
  abel

end Cert.Proof.Mix
-- ==== Proof.SelectA.lean ====
/- What the kernel's selection table holds, features 0 to 15: the one-hot of each lookup row's feature. -/
module

public import proofs.«01_k».proof.Proof.Tables

@[expose] public section

namespace Cert.Proof.Tables

open Idealize.ShloMosaic Cert.KernelIdeal

/-- One row of the selection table is the indicator of the lookup rows of feature `f`. -/
def SelRow (f : ℕ) : Prop := ∀ r < 1024, lit2t (1024 * f + r) = if f = src r then 0x3F80#16 else 0#16

noncomputable instance (f : ℕ) : Decidable (SelRow f) := inferInstanceAs (Decidable (∀ r < 1024, _))

/-- The rows of features 0 to 15. -/
theorem sel_low : ∀ f < 16, SelRow f := by decide +kernel

end Cert.Proof.Tables
-- ==== Proof.Select.lean ====
/- What the kernel's selection table holds, features 16 to 32: the one-hot of each lookup row's feature. -/
module

public import proofs.«01_k».proof.Proof.SelectA

@[expose] public section

namespace Cert.Proof.Tables

open Idealize.ShloMosaic Cert.KernelIdeal

/-- The rows of features 16 to 32. -/
theorem sel_high : ∀ f < 33, 16 ≤ f → SelRow f := by decide +kernel

/-- The selection table is the one-hot of each row's feature. -/
theorem sel (f : ℕ) (hf : f < 33) (r : ℕ) (hr : r < 1024) :
    lit2t (1024 * f + r) = if f = src r then 0x3F80#16 else 0#16 :=
  (show SelRow f from if h : f < 16 then sel_low f h else sel_high f hf (by omega)) r hr

end Cert.Proof.Tables
-- ==== Proof.Body.lean ====
/- One column of one row of the kernel's block before the normalization, as a function of the row's feature values and
   of the operands the kernel is called on. -/
module

public import proofs.«01_k».proof.Proof.Norm
public import proofs.«01_k».proof.Proof.Select

@[expose] public section

noncomputable section

namespace Cert.Proof.Body

open Idealize.ShloMosaic hiding ix0 ix1 ix2 ix3
open Idealize.ShloMosaic.ValueIdx Idealize.SL.Sem Cert.Proof.Sums Cert.Proof.Spec Cert.Proof.Norm
open Cert.KernelIdeal Cert.KernelIdeal.Gen Cert.Proof.Tables

/-- One word of the kernel's lookup index: from the raw value, the mask, the cap and the square-root mark. -/
def tword (x a c q : BitVec 32) : BitVec 32 :=
  if IntOp.cmpi .eq q 1#32 = 1#1 then
    IntOp.addi (IntOp.addi (IntOp.addi (IntOp.addi (IntOp.addi (IntOp.addi
      (BitVec.setWidth 32 (IntOp.cmpi .sge x 1#32)) (BitVec.setWidth 32 (IntOp.cmpi .sge x 4#32)))
      (BitVec.setWidth 32 (IntOp.cmpi .sge x 9#32))) (BitVec.setWidth 32 (IntOp.cmpi .sge x 16#32)))
      (BitVec.setWidth 32 (IntOp.cmpi .sge x 25#32))) (BitVec.setWidth 32 (IntOp.cmpi .sge x 36#32)))
      (BitVec.setWidth 32 (IntOp.cmpi .sge x 49#32))
  else IntOp.minsi (IntOp.andi x a) c

/-- With the kernel's tables it is the number the feature is looked up by. -/
theorem tword_eq : ∀ f : Fin 33, ∀ v < 64,
    tword (BitVec.ofNat 32 v) (lit4 f) (lit5 f) (lit6 f) = BitVec.ofNat 32 (tval f v) := by
  decide +kernel

/-- A feature's lookup number is small. -/
theorem tval_small : ∀ f < 33, ∀ v < 64, tval f v < 64 := by
  decide +kernel

/-- A row of the operands broadcast over the block's rows. -/
theorem row_apply {α : Type} {N w : ℕ} (hw : w ≠ 1) (x : (⟨2, ![1, w]⟩ : Shape).Idx → α)
    (h : (⟨2, ![1, w]⟩ : Shape).Broadcasts ⟨2, ![N, w]⟩) (n : Fin N) (k : Fin w) :
    broadcastTo ⟨2, ![N, w]⟩ x h (ix2 n k) = x (ix2 0 k) :=
  broadcastTo_apply _ _ _ _ fun a => by
    match a with
    | ⟨0, _⟩ => rfl
    | ⟨1, _⟩ => show k.val = if w = 1 then 0 else k.val; rw [if_neg hw]

/-- The kernel's lookup index, at an entry of the block. -/
theorem pay2_apply (P0 : IVec S2048x33 32) (P1 P2 P3 : IVec S1x33 32) (n : Fin 2048) (f : Fin 33) :
    k0_pay2 (F := Ideal) P0 P2 P3 P1 (ix2 n f)
      = tword (P0 (ix2 n f)) (P2 (ix2 0 f)) (P3 (ix2 0 f)) (P1 (ix2 0 f)) := by
  have e2 : broadcastTo S2048x33 (shapeCast S1x33 P2 shapeCasts_S1x33_S1x33) broadcasts_S1x33_S2048x33 (ix2 n f)
      = P2 (ix2 0 f) := by rw [row_apply (by decide), shapeCast_self]
  have e3 : broadcastTo S2048x33 (shapeCast S1x33 P3 shapeCasts_S1x33_S1x33) broadcasts_S1x33_S2048x33 (ix2 n f)
      = P3 (ix2 0 f) := by rw [row_apply (by decide), shapeCast_self]
  have e1 : broadcastTo S2048x33 (shapeCast S1x33 (cmpi .eq (shapeCast S1x33 P1 shapeCasts_S1x33_S1x33)
      (broadcast S1x33 1#32)) shapeCasts_S1x33_S1x33) broadcasts_S1x33_S2048x33 (ix2 n f)
      = IntOp.cmpi .eq (P1 (ix2 0 f)) 1#32 := by
    rw [row_apply (by decide), shapeCast_self, shapeCast_self]; rfl
  unfold tword
  rw [← e1, ← e2, ← e3]
  rfl

/-- The block before its normalization. -/
def acc (P0 : IVec S2048x33 32) (v42 : IVec S2048x33 32) (P4 : FVec Ideal S33x1024 .bf16)
    (P5 : FVec Ideal S1x1024 .f32) (P6 : FVec Ideal S1x256 .f32) (P7 : FVec Ideal S33x256 .f32)
    (P8 : FVec Ideal S1024x256 .f32) : FVec Ideal S2048x256 .f32 :=
  addf (addf (broadcastTo S2048x256 (shapeCast S1x256 (shapeCast S1x256 P6 shapeCasts_S1x256_S1x256)
      shapeCasts_S1x256_S1x256) broadcasts_S1x256_S2048x256)
    (matmul dot_S2048x33_S33x256_S2048x256_1_0_0_1_n_n none (sitofp (F := Ideal) .f32 P0)
      (shapeCast S33x256 P7 shapeCasts_S33x256_S33x256) (constant S2048x256 .f32 0x00000000#32)))
    (matmul dot_S2048x1024_S1024x256_S2048x256_1_0_0_1_n_n none (sitofp (F := Ideal) .f32 (extui 32
      (cmpf .oeq (matmul dot_S2048x33_S33x1024_S2048x1024_1_0_0_1_n_n none (sitofp (F := Ideal) .bf16 v42) P4
        (constant S2048x1024 .f32 0x00000000#32))
        (broadcastTo S2048x1024 (shapeCast S1x1024 P5 shapeCasts_S1x1024_S1x1024) broadcasts_S1x1024_S2048x1024))
      natLt_1_32))
      (shapeCast S1024x256 P8 shapeCasts_S1024x256_S1024x256) (constant S2048x256 .f32 0x00000000#32))

/-- The kernel's payload is its normalization. -/
theorem pay3_eq (P0 : IVec S2048x33 32) (v42 : IVec S2048x33 32) (P4 : FVec Ideal S33x1024 .bf16)
    (P5 : FVec Ideal S1x1024 .f32) (P6 : FVec Ideal S1x256 .f32) (P7 : FVec Ideal S33x256 .f32)
    (P8 : FVec Ideal S1024x256 .f32) : k0_pay3 P0 v42 P4 P5 P6 P7 P8 = normK (acc P0 v42 P4 P5 P6 P7 P8) := by
  unfold k0_pay3 normK acc
  rfl

/-- A comparison of two extended reals turned into a number is one or zero. -/
theorem eq_num (x y : EReal) :
    FloatOps.sitofp (F := Ideal) .f32 (BitVec.setWidth 32 (FloatOps.cmpf (F := Ideal) (φ := .f32) .oeq x y))
      = if x = y then (1 : EReal) else 0 := by
  show (((BitVec.setWidth 32 (BitVec.ofBool (decide (x = y)))).toInt : ℝ) : EReal) = _
  by_cases h : x = y
  · rw [if_pos h, decide_eq_true h]
    have : (BitVec.setWidth 32 (BitVec.ofBool true)).toInt = 1 := by decide
    rw [this]; simp
  · rw [if_neg h, decide_eq_false h]
    have : (BitVec.setWidth 32 (BitVec.ofBool false)).toInt = 0 := by decide
    rw [this]; simp

/-- A small word read as a signed number. -/
theorem num_toInt (v : ℕ) (hv : v < 64) : (((BitVec.ofNat 32 v).toInt : ℝ) : EReal) = num v := by
  have : (BitVec.ofNat 32 v).toInt = (v : ℤ) := by
    rw [BitVec.toInt_eq_toNat_of_lt (by rw [BitVec.toNat_ofNat]; omega), BitVec.toNat_ofNat,
      Nat.mod_eq_of_lt (by omega)]
  rw [this, num]; simp

theorem num_inj (a b : ℕ) : num a = num b ↔ a = b := by
  unfold num; rw [EReal.coe_eq_coe_iff]; exact Nat.cast_inj

variable (P0 : IVec S2048x33 32) (v42 : IVec S2048x33 32) (P4 : FVec Ideal S33x1024 .bf16)
  (P5 : FVec Ideal S1x1024 .f32) (P6 : FVec Ideal S1x256 .f32) (P7 : FVec Ideal S33x256 .f32)
  (P8 : FVec Ideal S1024x256 .f32) (n : Fin 2048) (k : Fin 256) (v : ℕ → ℕ)

/-- The lookup numbers gathered over the selection table, at an entry. -/
theorem pick_apply (hv : ∀ f < 33, v f < 64)
    (h42 : ∀ f : Fin 33, v42 (ix2 n f) = BitVec.ofNat 32 (tval f (v f)))
    (h4 : ∀ (f : Fin 33) (r : Fin 1024), P4 (ix2 f r) = if f.val = src r then (1 : EReal) else 0) (r : Fin 1024) :
    matmul dot_S2048x33_S33x1024_S2048x1024_1_0_0_1_n_n none (sitofp (F := Ideal) .bf16 v42) P4
      (constant S2048x1024 .f32 0x00000000#32) (ix2 n r)
      = if src r < 33 then num (tval (src r) (v (src r))) else 0 := by
  refine (Ideal.matmul_plain_apply (M := 2048) (K := 33) (N := 1024) none (sitofp (F := Ideal) .bf16 v42) P4
    (constant S2048x1024 .f32 0x00000000#32) n r).trans ?_
  rw [show (constant S2048x1024 .f32 0x00000000#32 : FVec Ideal S2048x1024 .f32) (ix2 n r) = 0 from zero_word, zero_add]
  have hs : ∀ f : Fin 33, sitofp (F := Ideal) .bf16 v42 (ix2 n f) * P4 (ix2 f r)
      = (fun f : ℕ => if src r = f then num (tval f (v f)) else 0) f := fun f => by
    have h1 : sitofp (F := Ideal) .bf16 v42 (ix2 n f) = num (tval f (v f)) :=
      (congrArg (fun w : BitVec 32 => (((w.toInt : ℤ) : ℝ) : EReal)) (h42 f)).trans
        (num_toInt _ (tval_small f f.isLt _ (hv f f.isLt)))
    rw [h1, h4]
    by_cases h : f.val = src r
    · rw [if_pos h, mul_one]; exact (if_pos h.symm).symm
    · rw [if_neg h, mul_zero]; exact (if_neg (Ne.symm h)).symm
  rw [Finset.sum_congr rfl fun f _ => hs f, sum_fin fun f : ℕ => if src r = f then num (tval f (v f)) else 0]
  exact sum_pick 33 (src r) fun f => num (tval f (v f))

theorem src_64 (i : ℕ) (hi : i < 8) (w : ℕ) (hw : w < 64) : src (64 * i + w) = src64 i ∧ idx (64 * i + w) = w := by
  unfold src idx
  rw [if_pos (by omega), if_pos (by omega)]
  exact ⟨congrArg src64 (by omega), by omega⟩

theorem src_16 (j : ℕ) (hj : j < 25) (s : ℕ) (hs : s < 16) :
    src (512 + (16 * j + s)) = src16 j ∧ idx (512 + (16 * j + s)) = s := by
  unfold src idx
  rw [if_neg (by omega), if_pos (by omega), if_neg (by omega)]
  exact ⟨congrArg src16 (by omega), by omega⟩

theorem src_pad (r : ℕ) : src (912 + r) = 33 := by
  unfold src
  rw [if_neg (by omega), if_neg (by omega)]

theorem src64_lt : ∀ i < 8, src64 i < 33 := by decide
theorem src16_lt : ∀ i < 25, src16 i < 33 := by decide
theorem tval_src64 : ∀ i < 8, ∀ v < 64, tval (src64 i) v = v := by decide +kernel

/-- The lookups' contribution to a row: one entry of the table for every segment. -/
def lookups (L : ℕ → EReal) (v : ℕ → ℕ) : EReal :=
  (∑ i ∈ Finset.range 8, L (64 * i + v (src64 i)))
    + ∑ j ∈ Finset.range 25, if tval (src16 j) (v (src16 j)) < 16
        then L (512 + (16 * j + tval (src16 j) (v (src16 j)))) else 0

/-- The one-hot rows against a table are the lookups. -/
theorem lookups_eq (L : ℕ → EReal) (hv : ∀ f < 33, v f < 64) (C : ℕ → EReal)
    (hC : ∀ r < 912, C r = num (idx r)) (hC' : ∀ r < 112, C (912 + r) ≠ 0) :
    ∑ r ∈ Finset.range 1024, (if (if src r < 33 then num (tval (src r) (v (src r))) else 0) = C r then 1 else 0) * L r
      = lookups L v := by
  rw [sum_rows, lookups]
  have h1 : ∑ i ∈ Finset.range 8, ∑ w ∈ Finset.range 64,
      (if (if src (64 * i + w) < 33 then num (tval (src (64 * i + w)) (v (src (64 * i + w)))) else 0) = C (64 * i + w)
        then (1 : EReal) else 0) * L (64 * i + w) = ∑ i ∈ Finset.range 8, L (64 * i + v (src64 i)) := by
    refine Finset.sum_congr rfl fun i hi => ?_
    have hi := Finset.mem_range.1 hi
    have hvi := hv _ (src64_lt i hi)
    refine (Finset.sum_congr rfl fun w hw => ?_).trans
      ((sum_onehot 64 (v (src64 i)) fun w => L (64 * i + w)).trans (if_pos hvi))
    have hw := Finset.mem_range.1 hw
    refine congrArg (· * L (64 * i + w)) (if_congr ?_ rfl rfl)
    rw [hC _ (by omega), (src_64 i hi w hw).1, (src_64 i hi w hw).2, if_pos (src64_lt i hi), num_inj,
      tval_src64 i hi _ hvi]
  have h2 : ∑ j ∈ Finset.range 25, ∑ s ∈ Finset.range 16,
      (if (if src (512 + (16 * j + s)) < 33
          then num (tval (src (512 + (16 * j + s))) (v (src (512 + (16 * j + s))))) else 0) = C (512 + (16 * j + s))
        then (1 : EReal) else 0) * L (512 + (16 * j + s))
      = ∑ j ∈ Finset.range 25, if tval (src16 j) (v (src16 j)) < 16
        then L (512 + (16 * j + tval (src16 j) (v (src16 j)))) else 0 := by
    refine Finset.sum_congr rfl fun j hj => ?_
    have hj := Finset.mem_range.1 hj
    refine (Finset.sum_congr rfl fun s hs => ?_).trans
      (sum_onehot 16 (tval (src16 j) (v (src16 j))) fun s => L (512 + (16 * j + s)))
    have hs := Finset.mem_range.1 hs
    refine congrArg (· * L (512 + (16 * j + s))) (if_congr ?_ rfl rfl)
    rw [hC _ (by omega), (src_16 j hj s hs).1, (src_16 j hj s hs).2, if_pos (src16_lt j hj), num_inj]
  have h3 : ∑ r ∈ Finset.range 112,
      (if (if src (912 + r) < 33 then num (tval (src (912 + r)) (v (src (912 + r)))) else 0) = C (912 + r)
        then (1 : EReal) else 0) * L (912 + r) = 0 := by
    refine Finset.sum_eq_zero fun r hr => ?_
    rw [src_pad, if_neg (lt_irrefl 33), if_neg (fun h => hC' r (Finset.mem_range.1 hr) h.symm), zero_mul]
  rw [h1, h2, h3, add_zero]

/-- The block before its normalization, at an entry. -/
theorem acc_apply (hv : ∀ f < 33, v f < 64)
    (h0 : ∀ f : Fin 33, P0 (ix2 n f) = BitVec.ofNat 32 (v f))
    (h42 : ∀ f : Fin 33, v42 (ix2 n f) = BitVec.ofNat 32 (tval f (v f)))
    (h4 : ∀ (f : Fin 33) (r : Fin 1024), P4 (ix2 f r) = if f.val = src r then (1 : EReal) else 0)
    (C : ℕ → EReal) (h5 : ∀ r : Fin 1024, P5 (ix2 0 r) = C r)
    (hC : ∀ r < 912, C r = num (idx r)) (hC' : ∀ r < 112, C (912 + r) ≠ 0)
    (Lc L : ℕ → EReal) (h7 : ∀ f : Fin 33, P7 (ix2 f k) = Lc f) (h8 : ∀ r : Fin 1024, P8 (ix2 r k) = L r) :
    acc P0 v42 P4 P5 P6 P7 P8 (ix2 n k)
      = (P6 (ix2 0 k) + ∑ f ∈ Finset.range 33, num (v f) * Lc f) + lookups L v := by
  have e6 : broadcastTo S2048x256 (shapeCast S1x256 (shapeCast S1x256 P6 shapeCasts_S1x256_S1x256)
      shapeCasts_S1x256_S1x256) broadcasts_S1x256_S2048x256 (ix2 n k) = P6 (ix2 0 k) := by
    rw [row_apply (by decide), shapeCast_self, shapeCast_self]
  have e7 : matmul dot_S2048x33_S33x256_S2048x256_1_0_0_1_n_n none (sitofp (F := Ideal) .f32 P0)
      (shapeCast S33x256 P7 shapeCasts_S33x256_S33x256) (constant S2048x256 .f32 0x00000000#32) (ix2 n k)
      = ∑ f ∈ Finset.range 33, num (v f) * Lc f := by
    refine (Ideal.matmul_plain_apply (M := 2048) (K := 33) (N := 256) none (sitofp (F := Ideal) .f32 P0)
      (shapeCast S33x256 P7 shapeCasts_S33x256_S33x256) (constant S2048x256 .f32 0x00000000#32) n k).trans ?_
    rw [show (constant S2048x256 .f32 0x00000000#32 : FVec Ideal S2048x256 .f32) (ix2 n k) = 0 from zero_word, zero_add,
      shapeCast_self, ← sum_fin fun f => num (v f) * Lc f]
    refine Finset.sum_congr rfl fun f _ => congrArg₂ (fun a b : EReal => a * b) ?_ (h7 f)
    exact (congrArg (fun w : BitVec 32 => (((w.toInt : ℤ) : ℝ) : EReal)) (h0 f)).trans (num_toInt _ (hv f f.isLt))
  have e8 : matmul dot_S2048x1024_S1024x256_S2048x256_1_0_0_1_n_n none (sitofp (F := Ideal) .f32 (extui 32
      (cmpf .oeq (matmul dot_S2048x33_S33x1024_S2048x1024_1_0_0_1_n_n none (sitofp (F := Ideal) .bf16 v42) P4
        (constant S2048x1024 .f32 0x00000000#32))
        (broadcastTo S2048x1024 (shapeCast S1x1024 P5 shapeCasts_S1x1024_S1x1024) broadcasts_S1x1024_S2048x1024))
      natLt_1_32))
      (shapeCast S1024x256 P8 shapeCasts_S1024x256_S1024x256) (constant S2048x256 .f32 0x00000000#32) (ix2 n k)
      = lookups L v := by
    refine (Ideal.matmul_plain_apply (M := 2048) (K := 1024) (N := 256) none (sitofp (F := Ideal) .f32 (extui 32
      (cmpf .oeq (matmul dot_S2048x33_S33x1024_S2048x1024_1_0_0_1_n_n none (sitofp (F := Ideal) .bf16 v42) P4
        (constant S2048x1024 .f32 0x00000000#32))
        (broadcastTo S2048x1024 (shapeCast S1x1024 P5 shapeCasts_S1x1024_S1x1024) broadcasts_S1x1024_S2048x1024))
      natLt_1_32)) (shapeCast S1024x256 P8 shapeCasts_S1024x256_S1024x256) (constant S2048x256 .f32 0x00000000#32)
      n k).trans ?_
    rw [show (constant S2048x256 .f32 0x00000000#32 : FVec Ideal S2048x256 .f32) (ix2 n k) = 0 from zero_word, zero_add,
      shapeCast_self P8, ← lookups_eq v L hv C hC hC',
      ← sum_fin fun r => (if (if src r < 33 then num (tval (src r) (v (src r))) else 0) = C r then 1 else 0) * L r]
    refine Finset.sum_congr rfl fun r _ => congrArg₂ (fun a b : EReal => a * b) ?_ (h8 r)
    refine (eq_num _ _).trans ?_
    rw [pick_apply v42 P4 n v hv h42 h4 r, row_apply (by decide), shapeCast_self P5, h5]
  exact congrArg₂ (fun a b : EReal => a + b) (congrArg₂ (fun a b : EReal => a + b) e6 e7) e8

end Cert.Proof.Body
-- ==== Proof.KRow.lean ====
/- The row the kernel assembles from its lookup table is the specified one. -/
module

public import proofs.«01_k».proof.Proof.Mix
public import proofs.«01_k».proof.Proof.Body

@[expose] public section

noncomputable section

namespace Cert.Proof.KRow

open Idealize.ShloMosaic hiding ix0 ix1 ix2 ix3
open Cert.Proof.Sums Cert.Proof.Spec Cert.Proof.Norm Cert.Proof.Tables Cert.Proof.Mix Cert.Proof.Body Cert.KernelIdeal

variable (T : Tabs)

/-- A row of the product as a sum over the list of its slots. -/
theorem rowOf_list (r : ℕ) : rowOf T r = ((cols r).map (entry T (coef r))).sum := by
  simp only [cols, List.map_cons, List.map_nil, List.sum_cons, List.sum_nil, add_zero, rowOf, add_assoc]

theorem one_word : Ideal.ofBits .f32 0x3F800000#32 = 1 := by
  simp [Ideal.ofBits, Ideal.ieee, -EReal.coe_mul]; norm_num

/-- A lookup row that selects a column has coefficient one. -/
theorem coef_of_cols {r a : ℕ} {l : List ℕ} (hr : r < 1024) (h : cols r = a :: l) (ha : a ≠ Tables.none) : coef r = 1 := by
  have h0 : col r 0 = a := by unfold cols at h; exact (List.cons.inj h).1
  unfold coef
  rw [coef_one r hr (by rw [h0]; exact ha), one_word]

/-- A row that selects one column. -/
theorem rowOf_single {r a : ℕ} (h : cols r = [a, Tables.none, Tables.none, Tables.none]) :
    rowOf T r = entry T (coef r) a := by
  rw [rowOf_list, h]
  simp only [List.map_cons, List.map_nil, List.sum_cons, List.sum_nil, entry_none, add_zero]

/-- A lookup row that selects one column, if that column exists. -/
theorem rowOf_cond {r a : ℕ} (p : Prop) [Decidable p] (hr : r < 1024)
    (h : cols r = [if p then a else Tables.none, Tables.none, Tables.none, Tables.none]) (ha : p → a < 734) :
    rowOf T r = if p then T.W a else 0 := by
  by_cases hp : p
  · rw [if_pos hp] at h ⊢
    have h734 := ha hp
    rw [rowOf_single T h, coef_of_cols hr h (by unfold Tables.none; omega), entry_W T 1 a h734, one_mul]
  · rw [if_neg hp] at h ⊢
    rw [rowOf_single T h, entry_none]

theorem row_species (v : ℕ) (hv : v < 64) : rowOf T v = T.W v + T.sp v := by
  have h := cols_species v hv
  rw [rowOf_list, coef_of_cols (by omega) h (by unfold Tables.none; omega), h]
  simp only [List.map_cons, List.map_nil, List.sum_cons, List.sum_nil, entry_none, add_zero]
  rw [entry_W T 1 v (by omega), entry_sp T 1 v hv, one_mul, one_mul]

theorem row_ability (v : ℕ) (hv : v < 64) : rowOf T (64 + v) = T.ab v + (T.it v + T.wab v) := by
  have h := cols_ability v hv
  rw [rowOf_list, coef_of_cols (by omega) h (by unfold Tables.none; omega), h]
  simp only [List.map_cons, List.map_nil, List.sum_cons, List.sum_nil, entry_none, add_zero]
  rw [entry_ab T 1 v hv, entry_it T 1 v hv, entry_wab T 1 v hv, one_mul, one_mul, one_mul]

theorem row_item (v : ℕ) (hv : v < 64) : rowOf T (128 + v) = T.wit v := by
  have h := cols_item v hv
  rw [rowOf_single T h, coef_of_cols (by omega) h (by unfold Tables.none; omega), entry_wit T 1 v hv, one_mul]

theorem row_action (k : ℕ) (hk : k < 4) (v : ℕ) (hv : v < 64) : rowOf T (192 + 64 * k + v) = T.ac v := by
  have h := cols_action k hk v hv
  rw [rowOf_single T h, coef_of_cols (by omega) h (by unfold Tables.none; omega), entry_ac T 1 v hv, one_mul]

theorem row_wide (v : ℕ) (hv : v < 64) : rowOf T (448 + v) = oneHot T.W 609 16 v :=
  rowOf_cond T (v < 16) (by omega) (cols_wide v hv) (by omega)

theorem row_sqrt_a (s : ℕ) (hs : s < 8) : rowOf T (512 + s) = T.W (512 + s) := by
  have h := cols_sqrt_a s hs
  rw [rowOf_single T h, coef_of_cols (by omega) h (by unfold Tables.none; omega), entry_W T 1 _ (by omega), one_mul]

theorem row_sqrt_b (s : ℕ) (hs : s < 8) : rowOf T (528 + s) = T.W (523 + s) := by
  have h := cols_sqrt_b s hs
  rw [rowOf_single T h, coef_of_cols (by omega) h (by unfold Tables.none; omega), entry_W T 1 _ (by omega), one_mul]

theorem row_boost (j : ℕ) (hj : j < 7) (s : ℕ) (hs : s < 8) :
    rowOf T (544 + 16 * j + s) = if s < 7 then T.W (649 + 13 * j + s) else 0 :=
  rowOf_cond T (s < 7) (by omega) (cols_boost j hj s hs) (by omega)

theorem narrow_in : ∀ i < 7, ∀ s < narrowW i, narrowOff i + s < 734 := by decide

theorem row_narrow (i : ℕ) (hi : i < 7) (s : ℕ) (hs : s < 9) :
    rowOf T (800 + 16 * i + s) = if s < narrowW i then T.W (narrowOff i + s) else 0 :=
  rowOf_cond T (s < narrowW i) (by omega) (cols_narrow i hi s hs) (narrow_in i hi s)

/-- A list of at most four slots filled from the front: the sum over its slots. -/
theorem sum_slots (p : ℕ → Bool) (g : ℕ → ℕ) (e : ℕ → EReal) (he : e Tables.none = 0) :
    ((((((List.range 4).filter p).map g) ++ List.replicate 4 Tables.none).take 4).map e).sum
      = ∑ b ∈ Finset.range 4, if p b = true then e (g b) else 0 := by
  have hr : List.range 4 = [0, 1, 2, 3] := rfl
  rw [hr]
  simp only [Finset.sum_range_succ, Finset.sum_range_zero, zero_add]
  cases h0 : p 0 <;> cases h1 : p 1 <;> cases h2 : p 2 <;> cases h3 : p 3 <;>
    simp [List.filter_cons, h0, h1, h2, h3, he, List.replicate, add_assoc]

/-- The rows of the bit segments that select a column have coefficient one. -/
theorem coef_bits : ∀ j < 9, ∀ s < 16, ∀ b < 4, s.testBit b = true ∧ 4 * j + b < 33 →
    lit1t (656 + 16 * j + s) = 0x3F800000#32 := by decide +kernel

theorem row_bits (j : ℕ) (hj : j < 9) (s : ℕ) (hs : s < 16) : rowOf T (656 + 16 * j + s)
    = ∑ b ∈ Finset.range 4, if s.testBit b = true ∧ 4 * j + b < 33 then T.W (555 + (4 * j + b)) else 0 := by
  rw [rowOf_list, cols_bits j hj s hs, sum_slots _ _ _ (entry_none T _)]
  refine Finset.sum_congr rfl fun b hb => ?_
  have hb := Finset.mem_range.1 hb
  by_cases h : s.testBit b = true ∧ 4 * j + b < 33
  · have hh : (s.testBit b && decide (4 * j + b < 33)) = true := by rw [h.1, decide_eq_true h.2]; rfl
    have hc : coef (656 + 16 * j + s) = 1 := by
      unfold coef; rw [coef_bits j hj s hs b hb h, one_word]
    rw [if_pos hh, if_pos h, hc, entry_W T 1 _ (by omega), one_mul]
  · have hh : ¬(s.testBit b && decide (4 * j + b < 33)) = true := fun hh => h (by simpa using hh)
    rw [if_neg hh, if_neg h]

/-- The raw features' rows. -/
theorem row_raw (f : ℕ) (hf : f < 33) :
    rowOf T (1031 + f) = entry T (coef (1031 + f)) (rawCol f) := rowOf_single T (cols_raw f hf)

theorem row_raw_none (f : ℕ) (hf : f < 33) (h : rawCol f = Tables.none) : rowOf T (1031 + f) = 0 := by
  rw [row_raw T f hf, h, entry_none]

theorem row_raw_some (f : ℕ) (hf : f < 33) (c : ℕ) (h : rawCol f = c) (hc : c < 734) :
    rowOf T (1031 + f) = Ideal.ofBits .f32 (rawCoef f) * T.W c := by
  rw [row_raw T f hf, h, entry_W T _ c hc, coef, coef_raw f hf (by rw [h]; unfold Tables.none; omega)]

theorem row_ratio (c : ℕ) (hc : c < 2) : rowOf T (1031 + (7 + c)) = ratio c * T.W (588 + c) := by
  interval_cases c
  · exact (row_raw_some T 7 (by decide) 588 (by decide) (by decide)).trans
      (congrArg (· * T.W 588) (if_pos rfl).symm)
  · exact (row_raw_some T 8 (by decide) 589 (by decide) (by decide)).trans
      (congrArg (· * T.W 589) (if_neg (by decide)).symm)

theorem row_half (j : ℕ) (hj : j < 7) : rowOf T (1031 + (17 + j)) = half * T.W (590 + j) := by
  have hc : rawCol (17 + j) = 590 + j := by
    unfold rawCol; rw [if_neg (by omega), if_neg (by omega), if_pos (by omega)]; omega
  have hw : rawCoef (17 + j) = 0x3F000000#32 := by
    unfold rawCoef; rw [if_neg (by omega), if_neg (by omega)]; rfl
  rw [row_raw_some T (17 + j) (by omega) _ hc (by omega), hw, half]

theorem rawCol_none (f : ℕ) (h : f ≠ 7 ∧ f ≠ 8 ∧ ¬(17 ≤ f ∧ f < 24)) : rawCol f = Tables.none := by
  unfold rawCol; rw [if_neg h.1, if_neg h.2.1, if_neg h.2.2]

variable (v : ℕ → ℕ) (hv : ∀ f < 33, v f < 64)

/-- The raw features' product. -/
theorem raw_sum : ∑ f ∈ Finset.range 33, num (v f) * rowOf T (1031 + f)
    = ∑ c ∈ Finset.range 2, num (v (7 + c)) * ratio c * T.W (588 + c)
      + ∑ j ∈ Finset.range 7, num (v (17 + j)) * half * T.W (590 + j) := by
  rw [show 33 = 7 + 2 + 8 + 7 + 9 from rfl, Finset.sum_range_add, Finset.sum_range_add, Finset.sum_range_add,
    Finset.sum_range_add]
  have z1 : ∑ f ∈ Finset.range 7, num (v f) * rowOf T (1031 + f) = 0 := Finset.sum_eq_zero fun f hf => by
    have hf := Finset.mem_range.1 hf
    rw [row_raw_none T f (by omega) (rawCol_none f (by omega)), mul_zero]
  have z2 : ∑ f ∈ Finset.range 8, num (v (7 + 2 + f)) * rowOf T (1031 + (7 + 2 + f)) = 0 :=
    Finset.sum_eq_zero fun f hf => by
      have hf := Finset.mem_range.1 hf
      rw [row_raw_none T (7 + 2 + f) (by omega) (rawCol_none _ (by omega)), mul_zero]
  have z3 : ∑ f ∈ Finset.range 9, num (v (7 + 2 + 8 + 7 + f)) * rowOf T (1031 + (7 + 2 + 8 + 7 + f)) = 0 :=
    Finset.sum_eq_zero fun f hf => by
      have hf := Finset.mem_range.1 hf
      rw [row_raw_none T (7 + 2 + 8 + 7 + f) (by omega) (rawCol_none _ (by omega)), mul_zero]
  rw [z1, z2, z3, zero_add, add_zero, add_zero]
  refine congrArg₂ (fun a b : EReal => a + b) (Finset.sum_congr rfl fun c hc => ?_) (Finset.sum_congr rfl fun j hj => ?_)
  · rw [row_ratio T c (Finset.mem_range.1 hc), mul_assoc]
  · rw [show 7 + 2 + 8 + j = 17 + j from rfl, row_half T j (Finset.mem_range.1 hj), mul_assoc]

theorem tval_sqrt : ∀ x < 64, tval 7 x = x.sqrt ∧ tval 8 x = x.sqrt := by decide +kernel
theorem tval_boost : ∀ j < 7, ∀ x < 64, tval (src16 (2 + j)) x = min x 7 ∧ src16 (2 + j) = 17 + j := by decide +kernel
theorem tval_bits : ∀ j < 9, ∀ x < 64, tval (src16 (2 + 7 + j)) x = x % 16 ∧ src16 (2 + 7 + j) = 24 + j := by
  decide +kernel
theorem tval_narrow : ∀ i < 7, ∀ x < 64, tval (src16 (2 + 7 + 9 + i)) x = min x (narrowW i) ∧ narrowW i < 9 := by
  decide +kernel

include hv in
/-- The sixteen-row segments' lookups. -/
theorem small_sum : (∑ j ∈ Finset.range 25, if tval (src16 j) (v (src16 j)) < 16
        then rowOf T (512 + (16 * j + tval (src16 j) (v (src16 j)))) else 0)
    = (((T.W (512 + (v 7).sqrt) + T.W (523 + (v 8).sqrt)) + boosts T.W v) + bits T.W v)
      + ∑ i ∈ Finset.range 7, oneHot T.W (narrowOff i) (narrowW i) (v (src16 (2 + 7 + 9 + i))) := by
  rw [show 25 = 2 + 7 + 9 + 7 from rfl, Finset.sum_range_add, Finset.sum_range_add, Finset.sum_range_add]
  refine congrArg₂ (fun a b : EReal => a + b) (congrArg₂ (fun a b : EReal => a + b)
    (congrArg₂ (fun a b : EReal => a + b) ?_ ?_) ?_) ?_
  · have h7 := (tval_sqrt _ (hv 7 (by decide))).1
    have h8 := (tval_sqrt _ (hv 8 (by decide))).2
    have s7 : (v 7).sqrt < 8 := Nat.sqrt_lt.2 (by have := hv 7 (by decide); omega)
    have s8 : (v 8).sqrt < 8 := Nat.sqrt_lt.2 (by have := hv 8 (by decide); omega)
    rw [Finset.sum_range_succ, Finset.sum_range_succ, Finset.sum_range_zero, zero_add,
      show src16 0 = 7 from rfl, show src16 1 = 8 from rfl, h7, h8, if_pos (by omega), if_pos (by omega),
      show 512 + (16 * 0 + (v 7).sqrt) = 512 + (v 7).sqrt by omega,
      show 512 + (16 * 1 + (v 8).sqrt) = 528 + (v 8).sqrt by omega, row_sqrt_a T _ s7, row_sqrt_b T _ s8]
  · unfold boosts
    refine Finset.sum_congr rfl fun j hj => ?_
    have hj := Finset.mem_range.1 hj
    have hx := hv (17 + j) (by omega)
    rw [(tval_boost j hj 0 (by decide)).2]
    have ht : tval (17 + j) (v (17 + j)) = min (v (17 + j)) 7 := by
      rw [← (tval_boost j hj 0 (by decide)).2, (tval_boost j hj _ (by rw [(tval_boost j hj 0 (by decide)).2]; exact hx)).1]
    rw [ht, if_pos (by omega), show 512 + (16 * (2 + j) + min (v (17 + j)) 7) = 544 + 16 * j + min (v (17 + j)) 7 by omega,
      row_boost T j hj _ (by omega)]
    by_cases h : v (17 + j) < 7
    · rw [if_pos h, if_pos (by omega), Nat.min_eq_left (by omega)]
    · rw [if_neg h, if_neg (by omega)]
  · unfold bits
    refine Finset.sum_congr rfl fun j hj => ?_
    have hj := Finset.mem_range.1 hj
    have hx := hv (24 + j) (by omega)
    rw [(tval_bits j hj 0 (by decide)).2]
    have ht : tval (24 + j) (v (24 + j)) = v (24 + j) % 16 := by
      rw [← (tval_bits j hj 0 (by decide)).2, (tval_bits j hj _ (by rw [(tval_bits j hj 0 (by decide)).2]; exact hx)).1]
    rw [ht, if_pos (by omega), show 512 + (16 * (2 + 7 + j) + v (24 + j) % 16) = 656 + 16 * j + v (24 + j) % 16 by omega,
      row_bits T j hj _ (by omega)]
    refine Finset.sum_congr rfl fun b hb => if_congr ?_ rfl rfl
    have hb := Finset.mem_range.1 hb
    rw [show 16 = 2 ^ 4 from rfl, Nat.testBit_mod_two_pow, decide_eq_true hb, Bool.true_and]
  · refine Finset.sum_congr rfl fun i hi => ?_
    have hi := Finset.mem_range.1 hi
    have hx := hv (src16 (2 + 7 + 9 + i)) (src16_lt _ (by omega))
    obtain ⟨ht, hn⟩ := tval_narrow i hi _ hx
    rw [ht, if_pos (by omega)]
    generalize v (src16 (2 + 7 + 9 + i)) = x at hx
    rw [show 512 + (16 * (2 + 7 + 9 + i) + min x (narrowW i)) = 800 + 16 * i + min x (narrowW i) by omega,
      row_narrow T i hi _ (by omega), oneHot]
    by_cases h : x < narrowW i
    · rw [if_pos h, if_pos (by omega), Nat.min_eq_left (by omega)]
    · rw [if_neg h, if_neg (by omega)]

include hv in
/-- The row the kernel assembles is the specified one. -/
theorem krow_eq : (((T.bab + T.bit) + T.benc) + ∑ f ∈ Finset.range 33, num (v f) * rowOf T (1031 + f))
    + lookups (rowOf T) v = row T v := by
  unfold lookups
  rw [raw_sum, small_sum T v hv]
  have a0 := row_species T (v 0) (hv 0 (by decide))
  have a1 := row_ability T (v 1) (hv 1 (by decide))
  have a2 := row_item T (v 2) (hv 2 (by decide))
  have a3 := row_action T 0 (by decide) (v 3) (hv 3 (by decide))
  have a4 := row_action T 1 (by decide) (v 4) (hv 4 (by decide))
  have a5 := row_action T 2 (by decide) (v 5) (hv 5 (by decide))
  have a6 := row_action T 3 (by decide) (v 6) (hv 6 (by decide))
  have a7 := row_wide T (v 11) (hv 11 (by decide))
  have hL : ∑ i ∈ Finset.range 8, rowOf T (64 * i + v (src64 i))
      = (T.W (v 0) + T.sp (v 0)) + (T.ab (v 1) + (T.it (v 1) + T.wab (v 1))) + T.wit (v 2) + T.ac (v 3) + T.ac (v 4)
        + T.ac (v 5) + T.ac (v 6) + oneHot T.W 609 16 (v 11) := by
    simp only [Finset.sum_range_succ, Finset.sum_range_zero, zero_add]
    rw [← a0, ← a1, ← a2, ← a3, ← a4, ← a5, ← a6, ← a7]
    simp only [Nat.mul_zero, Nat.zero_add]
    rfl
  have hN : ∑ i ∈ Finset.range 7, oneHot T.W (narrowOff i) (narrowW i) (v (src16 (2 + 7 + 9 + i)))
      = oneHot T.W 597 4 (v 9) + oneHot T.W 601 8 (v 10) + oneHot T.W 625 2 (v 12) + oneHot T.W 627 8 (v 13)
        + oneHot T.W 635 4 (v 14) + oneHot T.W 639 2 (v 15) + oneHot T.W 641 2 (v 16) := by
    simp only [Finset.sum_range_succ, Finset.sum_range_zero, zero_add]
    rfl
  rw [hL, hN]
  unfold row codeSum
  generalize (∑ c ∈ Finset.range 2, num (v (7 + c)) * ratio c * T.W (588 + c)) = s1
  generalize (∑ j ∈ Finset.range 7, num (v (17 + j)) * half * T.W (590 + j)) = s2
  generalize bits T.W v = s3
  generalize boosts T.W v = s4
  abel

end Cert.Proof.KRow
-- ==== Proof.Host.lean ====
/- What the kernel's windows hold when its grid starts: the lookup table and the other rows its host code computes. -/
module

public import proofs.«01_k».proof.Proof.KRow
public import proofs.«01_k».proof.Proof.Gen.KernelIdeal.Frame

@[expose] public section

noncomputable section

namespace Cert.Proof.Host

open Idealize.ShloMosaic hiding ix0 ix1 ix2 ix3
open Idealize.ShloMosaic.ValueIdx Idealize.ShloMosaic.TcCoe Idealize.SL.Sem Cert.KernelIdeal Cert.KernelIdeal.Gen
open Cert.Proof.Sums Cert.Proof.Spec Cert.Proof.Norm Cert.Proof.Tables Cert.Proof.Mix

/-- Column `k` of a table, read at a row as a natural. -/
def colOf {R : ℕ} (x : (⟨2, ![R, 256]⟩ : Shape).Idx → EReal) (k : Fin 256) : ℕ → EReal := tab fun r => x (ix2 r k)

/-- Sixty-four columns of the mixing matrix, padded with zeros. -/
def part {W : ℕ} (off : ℕ) (hi : Fin 2 → ℕ) (h : S1064x1118.Slices ![0, off] S1064x64)
    (hp : S1064x64.Pads ![0, 0] hi ![0, 0] ⟨2, ![1064, W]⟩) : FVec Ideal ⟨2, ![1064, W]⟩ .f32 :=
  pad ⟨2, ![1064, W]⟩ ![0, 0] hi ![0, 0] (extractStridedSlice S1064x64 ![0, off] mixM h)
    (sitofp (F := Ideal) .f32 (constantI S_ 32 0#32)) hp h_S_

variable (a1 : FVec Ideal S512x256 .f32) (a2 : FVec Ideal S128x256 .f32) (a3 : FVec Ideal S512x256 .f32)
  (a4 : FVec Ideal S1024x256 .f32) (a8 : FVec Ideal S128x256 .f32) (a10 : FVec Ideal S512x256 .f32)
  (a12 : FVec Ideal S734x256 .f32) (a9 a11 a13 : FVec Ideal S256 .f32)

/-- Column `k` of the tables and bias vectors. -/
def tabsOf (k : Fin 256) : Tabs where
  W := colOf (R := 734) a12 k
  sp := colOf (R := 512) a1 k
  ab := colOf (R := 128) a2 k
  it := colOf (R := 512) a3 k
  ac := colOf (R := 1024) a4 k
  wab := colOf (R := 128) a8 k
  wit := colOf (R := 512) a10 k
  bab := a9 (ix1 k)
  bit := a11 (ix1 k)
  benc := a13 (ix1 k)

/-- The mixing matrix against the tables: the sum of the seven products. -/
def la : FVec Ideal S1064x256 .f32 :=
  addf (addf (addf (addf (addf (addf
    (Host.dotGeneral dot_S1064x734_S734x256_S1064x256_1_0_0_1_n_n none
      (extractStridedSlice S1064x734 ![0, 0] mixM slices_S1064x1118_S1064x734_0_0) a12)
    (Host.dotGeneral dot_S1064x512_S512x256_S1064x256_1_0_0_1_n_n none
      (part 734 ![0, 448] slices_S1064x1118_S1064x64_0_734 pads_S1064x64_S1064x512_000_04480) a1))
    (Host.dotGeneral dot_S1064x128_S128x256_S1064x256_1_0_0_1_n_n none
      (part 798 ![0, 64] slices_S1064x1118_S1064x64_0_798 pads_S1064x64_S1064x128_000_0640) a2))
    (Host.dotGeneral dot_S1064x512_S512x256_S1064x256_1_0_0_1_n_n none
      (part 862 ![0, 448] slices_S1064x1118_S1064x64_0_862 pads_S1064x64_S1064x512_000_04480) a3))
    (Host.dotGeneral dot_S1064x1024_S1024x256_S1064x256_1_0_0_1_n_n none
      (part 926 ![0, 960] slices_S1064x1118_S1064x64_0_926 pads_S1064x64_S1064x1024_000_09600) a4))
    (Host.dotGeneral dot_S1064x128_S128x256_S1064x256_1_0_0_1_n_n none
      (part 990 ![0, 64] slices_S1064x1118_S1064x64_0_990 pads_S1064x64_S1064x128_000_0640) a8))
    (Host.dotGeneral dot_S1064x512_S512x256_S1064x256_1_0_0_1_n_n none
      (part 1054 ![0, 448] slices_S1064x1118_S1064x64_0_1054 pads_S1064x64_S1064x512_000_04480) a10)

/-- An entry of the sum of products is the row's selection from the tables' columns. -/
theorem la_apply (r : Fin 1064) (k : Fin 256) :
    la a1 a2 a3 a4 a8 a10 a12 (ix2 r k) = rowOf (tabsOf a1 a2 a3 a4 a8 a10 a12 a9 a11 a13 k) r := by
  refine Eq.trans ?_ (rowOf_eq (tabsOf a1 a2 a3 a4 a8 a10 a12 a9 a11 a13 k) r r.isLt)
  exact congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
      (first_apply slices_S1064x1118_S1064x734_0_0 a12 r k)
      (part_apply (by decide) 734 (by decide) ![0, 448] slices_S1064x1118_S1064x64_0_734 pads_S1064x64_S1064x512_000_04480 a1 r k))
      (part_apply (by decide) 798 (by decide) ![0, 64] slices_S1064x1118_S1064x64_0_798 pads_S1064x64_S1064x128_000_0640 a2 r k))
      (part_apply (by decide) 862 (by decide) ![0, 448] slices_S1064x1118_S1064x64_0_862 pads_S1064x64_S1064x512_000_04480 a3 r k))
      (part_apply (by decide) 926 (by decide) ![0, 960] slices_S1064x1118_S1064x64_0_926 pads_S1064x64_S1064x1024_000_09600 a4 r k))
      (part_apply (by decide) 990 (by decide) ![0, 64] slices_S1064x1118_S1064x64_0_990 pads_S1064x64_S1064x128_000_0640 a8 r k))
      (part_apply (by decide) 1054 (by decide) ![0, 448] slices_S1064x1118_S1064x64_0_1054 pads_S1064x64_S1064x512_000_04480 a10 r k)

/-- A vector laid out as one row. -/
theorem lay_apply {α : Type} {w : ℕ} (x : (⟨1, ![w]⟩ : Shape).Idx → α)
    (h : (⟨1, ![w]⟩ : Shape).ShapeCasts ⟨2, ![1, w]⟩) (c : Fin w) : shapeCast ⟨2, ![1, w]⟩ x h (ix2 0 c) = x (ix1 c) :=
  shapeCast_apply x h _ _ (by
    rw [Shape.rowMajor_val_two, Shape.rowMajor_val_one]
    show c.val = 0 * w + c.val
    omega)

/-- The fields of the word of a small positive number: no sign, its exponent, and its digits moved up to the top. -/
theorem natWord_fields : ∀ v < 64, 0 < v → (natWord v).extractLsb' 31 1 = 0#1
    ∧ ((natWord v).extractLsb' 23 8).toNat = 127 + v.log2 ∧ v.log2 ≤ 5
    ∧ 2 ^ 23 + ((natWord v).extractLsb' 0 23).toNat = v * 2 ^ (23 - v.log2) := by decide +kernel

/-- The words of the small numbers are those numbers. -/
theorem natWord_num (v : ℕ) (hv : v < 64) : Ideal.ofBits .f32 (natWord v) = num v := by
  rcases Nat.eq_zero_or_pos v with rfl | h0
  · simp [natWord, num, Ideal.ofBits, Ideal.ieee, -EReal.coe_mul]
  obtain ⟨hs, he, hl, hf⟩ := natWord_fields v hv h0
  show Ideal.ieee 8 23 (natWord v) = num v
  unfold Ideal.ieee num
  simp only [show 8 + 23 = 31 from rfl, hs, he, hf]
  rw [if_neg (by omega), if_neg (by omega)]
  refine congrArg _ ?_
  have hp : (2 : ℝ) ^ (23 - v.log2) * 2 ^ ((v.log2 : ℤ) - 23) = 1 := by
    rw [← zpow_natCast, ← zpow_add₀ two_ne_zero, Nat.cast_sub (by omega)]
    simp
  have hx : ((127 + v.log2 : ℕ) : ℤ) - (2 ^ (8 - 1) - 1) - (23 : ℕ) = (v.log2 : ℤ) - 23 := by
    push_cast; ring
  rw [hx]
  push_cast
  rw [one_mul, mul_assoc, hp, mul_one]

theorem idx_lt : ∀ r < 1024, idx r < 64 ∨ 912 ≤ r := by decide +kernel

/-- An index word in use. -/
theorem idx_num (r : ℕ) (hr : r < 912) : Ideal.ofBits .f32 (lit3t r) = num (idx r) := by
  rw [idxWord r hr]
  exact natWord_num _ ((idx_lt r (by omega)).resolve_right (by omega))

/-- An index word not in use is not zero. -/
theorem idx_pad (r : ℕ) (hr : r < 112) : Ideal.ofBits .f32 (lit3t (912 + r)) ≠ 0 := by
  rw [idxWord_pad r hr]
  simp [Ideal.ofBits, Ideal.ieee, -EReal.coe_mul]

variable (m : (ℓ : Loc nD τ sig) → Buf (Elt Ideal) ℓ) (c : Dev nD)

/-- The sum of products over the kernel's own arguments. -/
def laM : FVec Ideal S1064x256 .f32 := la (m (c, Proc.tc.devRef main_arg1)) (m (c, Proc.tc.devRef main_arg2))
    (m (c, Proc.tc.devRef main_arg3)) (m (c, Proc.tc.devRef main_arg4)) (m (c, Proc.tc.devRef main_arg8))
    (m (c, Proc.tc.devRef main_arg10)) (m (c, Proc.tc.devRef main_arg12))

/-- Column `k` of the kernel's tables and bias vectors. -/
def tabsM (k : Fin 256) : Tabs := tabsOf (m (c, Proc.tc.devRef main_arg1)) (m (c, Proc.tc.devRef main_arg2))
    (m (c, Proc.tc.devRef main_arg3)) (m (c, Proc.tc.devRef main_arg4)) (m (c, Proc.tc.devRef main_arg8))
    (m (c, Proc.tc.devRef main_arg10)) (m (c, Proc.tc.devRef main_arg12)) (m (c, Proc.tc.devRef main_arg9))
    (m (c, Proc.tc.devRef main_arg11)) (m (c, Proc.tc.devRef main_arg13)) k

/-- The lookup table. -/
theorem v43_eq : Gen.V m c main_v43 = extractStridedSlice S1024x256 ![0, 0] (laM m c) slices_S1064x256_S1024x256_0_0 := by
  unfold Gen.V
  simp only [List.flatten_cons, List.flatten_nil, List.append_nil, hostOps0, hostOps0_1, hostOps0_2, hostOps0_3,
    hostOps0_4, hostOps0_5, hostOps0_6, hostOps0_7, hostOps0_8, hostOps0_9, hostOps0_10, hostOps0_11, hostOps0_12,
    hostOps0_13, hostOps0_14, List.cons_append, List.nil_append, StableHlo.after_cons, StableHlo.after_nil]
  after_results_simp
  rfl

/-- The raw features' rows. -/
theorem v44_eq : Gen.V m c main_v44 = extractStridedSlice S33x256 ![1031, 0] (laM m c) slices_S1064x256_S33x256_1031_0 := by
  unfold Gen.V
  simp only [List.flatten_cons, List.flatten_nil, List.append_nil, hostOps0, hostOps0_1, hostOps0_2, hostOps0_3,
    hostOps0_4, hostOps0_5, hostOps0_6, hostOps0_7, hostOps0_8, hostOps0_9, hostOps0_10, hostOps0_11, hostOps0_12,
    hostOps0_13, hostOps0_14, List.cons_append, List.nil_append, StableHlo.after_cons, StableHlo.after_nil]
  after_results_simp
  rfl

/-- The three bias vectors' sum. -/
theorem v47_eq : Gen.V m c main_v47 = shapeCast S1x256 (addf (F := Ideal) (φ := .f32) (addf (F := Ideal) (φ := .f32) (m (c, Proc.tc.devRef main_arg9)) (m (c, Proc.tc.devRef main_arg11)))
    (m (c, Proc.tc.devRef main_arg13))) shapeCasts_S256_S1x256 := by
  unfold Gen.V
  simp only [List.flatten_cons, List.flatten_nil, List.append_nil, hostOps0, hostOps0_1, hostOps0_2, hostOps0_3,
    hostOps0_4, hostOps0_5, hostOps0_6, hostOps0_7, hostOps0_8, hostOps0_9, hostOps0_10, hostOps0_11, hostOps0_12,
    hostOps0_13, hostOps0_14, List.cons_append, List.nil_append, StableHlo.after_cons, StableHlo.after_nil]
  after_results_simp
  rfl

/-- The scale. -/
theorem v48_eq : Gen.V m c main_v48 = shapeCast S1x256 (m (c, Proc.tc.devRef main_arg14)) shapeCasts_S256_S1x256 := by
  unfold Gen.V
  simp only [List.flatten_cons, List.flatten_nil, List.append_nil, hostOps0, hostOps0_1, hostOps0_2, hostOps0_3,
    hostOps0_4, hostOps0_5, hostOps0_6, hostOps0_7, hostOps0_8, hostOps0_9, hostOps0_10, hostOps0_11, hostOps0_12,
    hostOps0_13, hostOps0_14, List.cons_append, List.nil_append, StableHlo.after_cons, StableHlo.after_nil]
  after_results_simp
  rfl

/-- The shift. -/
theorem v49_eq : Gen.V m c main_v49 = shapeCast S1x256 (m (c, Proc.tc.devRef main_arg15)) shapeCasts_S256_S1x256 := by
  unfold Gen.V
  simp only [List.flatten_cons, List.flatten_nil, List.append_nil, hostOps0, hostOps0_1, hostOps0_2, hostOps0_3,
    hostOps0_4, hostOps0_5, hostOps0_6, hostOps0_7, hostOps0_8, hostOps0_9, hostOps0_10, hostOps0_11, hostOps0_12,
    hostOps0_13, hostOps0_14, List.cons_append, List.nil_append, StableHlo.after_cons, StableHlo.after_nil]
  after_results_simp
  rfl

/-- The index row. -/
theorem v50_eq : Gen.V m c main_v50 = shapeCast S1x1024 (fun i => FloatOps.ofBits (F := Ideal) .f32 (lit3 (S1024.rowMajor i))) shapeCasts_S1024_S1x1024 := by
  unfold Gen.V
  simp only [List.flatten_cons, List.flatten_nil, List.append_nil, hostOps0, hostOps0_1, hostOps0_2, hostOps0_3,
    hostOps0_4, hostOps0_5, hostOps0_6, hostOps0_7, hostOps0_8, hostOps0_9, hostOps0_10, hostOps0_11, hostOps0_12,
    hostOps0_13, hostOps0_14, List.cons_append, List.nil_append, StableHlo.after_cons, StableHlo.after_nil]
  after_results_simp
  rfl

/-- The masks. -/
theorem v51_eq : Gen.V m c main_v51 = shapeCast S1x33 (fun i => lit4 (S33.rowMajor i)) shapeCasts_S33_S1x33 := by
  unfold Gen.V
  simp only [List.flatten_cons, List.flatten_nil, List.append_nil, hostOps0, hostOps0_1, hostOps0_2, hostOps0_3,
    hostOps0_4, hostOps0_5, hostOps0_6, hostOps0_7, hostOps0_8, hostOps0_9, hostOps0_10, hostOps0_11, hostOps0_12,
    hostOps0_13, hostOps0_14, List.cons_append, List.nil_append, StableHlo.after_cons, StableHlo.after_nil]
  after_results_simp
  rfl

/-- The upper bounds. -/
theorem v52_eq : Gen.V m c main_v52 = shapeCast S1x33 (fun i => lit5 (S33.rowMajor i)) shapeCasts_S33_S1x33 := by
  unfold Gen.V
  simp only [List.flatten_cons, List.flatten_nil, List.append_nil, hostOps0, hostOps0_1, hostOps0_2, hostOps0_3,
    hostOps0_4, hostOps0_5, hostOps0_6, hostOps0_7, hostOps0_8, hostOps0_9, hostOps0_10, hostOps0_11, hostOps0_12,
    hostOps0_13, hostOps0_14, List.cons_append, List.nil_append, StableHlo.after_cons, StableHlo.after_nil]
  after_results_simp
  rfl

/-- The marks of the square roots. -/
theorem v53_eq : Gen.V m c main_v53 = shapeCast S1x33 (fun i => lit6 (S33.rowMajor i)) shapeCasts_S33_S1x33 := by
  unfold Gen.V
  simp only [List.flatten_cons, List.flatten_nil, List.append_nil, hostOps0, hostOps0_1, hostOps0_2, hostOps0_3,
    hostOps0_4, hostOps0_5, hostOps0_6, hostOps0_7, hostOps0_8, hostOps0_9, hostOps0_10, hostOps0_11, hostOps0_12,
    hostOps0_13, hostOps0_14, List.cons_append, List.nil_append, StableHlo.after_cons, StableHlo.after_nil]
  after_results_simp
  rfl

/-- The selection matrix. -/
theorem cst_0_eq : Gen.V m c main_cst_0 = fun i => FloatOps.ofBits (F := Ideal) .bf16 (lit2 (S33x1024.rowMajor i)) := by
  unfold Gen.V
  simp only [List.flatten_cons, List.flatten_nil, List.append_nil, hostOps0, hostOps0_1, hostOps0_2, hostOps0_3,
    hostOps0_4, hostOps0_5, hostOps0_6, hostOps0_7, hostOps0_8, hostOps0_9, hostOps0_10, hostOps0_11, hostOps0_12,
    hostOps0_13, hostOps0_14, List.cons_append, List.nil_append, StableHlo.after_cons, StableHlo.after_nil]
  after_results_simp
  rfl

end Cert.Proof.Host
-- ==== Proof.Ker.lean ====
/- The kernel's result array: every row, normalized, scaled and shifted. -/
module

public import proofs.«01_k».proof.Proof.Host
public import proofs.«01_k».proof.Proof.Gen.KernelIdeal.Value
public import Idealize.ShloMosaic.Lib.Pipeline.ValueKit

@[expose] public section

set_option maxRecDepth 16384

noncomputable section

namespace Cert.Proof.Ker

open Idealize.ShloMosaic hiding ix0 ix1 ix2 ix3
open Idealize.ShloMosaic.ValueIdx Idealize.ShloMosaic.TcCoe Idealize.SL.Sem Cert.KernelIdeal Cert.KernelIdeal.Gen
open Cert.Proof.Sums Cert.Proof.Spec Cert.Proof.Norm Cert.Proof.Tables Cert.Proof.Mix Cert.Proof.Body Cert.Proof.Host

variable (m : (ℓ : Loc nD τ sig) → Buf (Elt Ideal) ℓ) (c : Dev nD)

/-- The feature words. -/
def E : S16384x33.Idx → BitVec 32 := m (c, Proc.tc.devRef main_arg0)

/-- The value of a feature in a row. -/
def feat (n : Fin 16384) (f : ℕ) : ℕ := if h : f < 33 then (E m c (ix2 n ⟨f, h⟩)).toNat else 0

/-- The scale and the shift of the normalized row. -/
def scale : S256.Idx → EReal := m (c, Proc.tc.devRef main_arg14)
def shift : S256.Idx → EReal := m (c, Proc.tc.devRef main_arg15)

/-- The result: every row, normalized, scaled and shifted. -/
def G : S16384x256.Idx → EReal := fun i =>
  normed (fun j => row (tabsM m c j) (feat m c (i 0))) (i 1) * scale m c (ix1 (i 1)) + shift m c (ix1 (i 1))

theorem z0 : ∀ t : Fin cfg0.N, win0_0.index t = ![t.val, 0] := by decide +kernel
theorem z1 : ∀ t : Fin cfg0.N, win0_1.index t = ![0, 0] := by decide +kernel
theorem z2 : ∀ t : Fin cfg0.N, win0_2.index t = ![0, 0] := by decide +kernel
theorem z3 : ∀ t : Fin cfg0.N, win0_3.index t = ![0, 0] := by decide +kernel
theorem z4 : ∀ t : Fin cfg0.N, win0_4.index t = ![0, 0] := by decide +kernel
theorem z5 : ∀ t : Fin cfg0.N, win0_5.index t = ![0, 0] := by decide +kernel
theorem z6 : ∀ t : Fin cfg0.N, win0_6.index t = ![0, 0] := by decide +kernel
theorem z7 : ∀ t : Fin cfg0.N, win0_7.index t = ![0, 0] := by decide +kernel
theorem z8 : ∀ t : Fin cfg0.N, win0_8.index t = ![0, 0] := by decide +kernel
theorem z9 : ∀ t : Fin cfg0.N, win0_9.index t = ![0, 0] := by decide +kernel
theorem z10 : ∀ t : Fin cfg0.N, win0_10.index t = ![0, 0] := by decide +kernel
theorem z11 : ∀ t : Fin cfg0.N, win0_11.index t = ![t.val, 0] := by decide +kernel

variable (t : Fin cfg0.N)

/-- The row of the array that row `n` of block `t` is. -/
def at' (n : Fin 2048) : Fin 16384 := ⟨2048 * t.val + n.val, by have : t.val < 8 := t.isLt; omega⟩

theorem read0 (n : Fin 2048) (f : Fin 33) : iblk m c 0 t (ix2 n f) = E m c (ix2 (at' t n) f) := by
  refine Eq.trans ?_ (congrFun (V_main_arg0 m c) (ix2 (at' t n) f))
  unfold at'
  blk_ext [iblk, z0 t]
  show t.val * 2048 + n.val = 2048 * t.val + n.val
  omega

theorem read1 (f : Fin 33) (r : Fin 1024) : iblk m c 1 t (ix2 f r) = if f.val = src r then (1 : EReal) else 0 := by
  have h : iblk m c 1 t (ix2 f r) = V m c main_cst_0 (ix2 f r) := by blk_ext [iblk, z1 t]
  refine (h.trans (congrFun (cst_0_eq m c) (ix2 f r))).trans ?_
  have e : lit2 (S33x1024.rowMajor (ix2 f r)) = lit2t (1024 * f.val + r.val) := by
    refine congrArg lit2t ?_
    refine (Shape.rowMajor_val_two _).trans ?_
    show f.val * 1024 + r.val = 1024 * f.val + r.val
    omega
  show Ideal.ofBits .bf16 (lit2 (S33x1024.rowMajor (ix2 f r))) = _
  rw [e, sel f.val f.isLt r.val r.isLt]
  by_cases hf : f.val = src r
  · rw [if_pos hf, if_pos hf]; simp [Ideal.ofBits, Ideal.ieee, -EReal.coe_mul]; norm_num
  · rw [if_neg hf, if_neg hf]; simp [Ideal.ofBits, Ideal.ieee, -EReal.coe_mul]

theorem read2 (r : Fin 1024) : iblk m c 2 t (ix2 0 r) = Ideal.ofBits .f32 (lit3t r) := by
  have h : iblk m c 2 t (ix2 0 r) = V m c main_v50 (ix2 0 r) := by blk_ext [iblk, z2 t]
  refine (h.trans (congrFun (v50_eq m c) (ix2 0 r))).trans ?_
  refine (lay_apply _ shapeCasts_S1024_S1x1024 r).trans ?_
  exact congrArg (fun i => Ideal.ofBits .f32 (lit3t i)) (Shape.rowMajor_val_one (ix1 r))

theorem read3 (f : Fin 33) : iblk m c 3 t (ix2 0 f) = lit4 f := by
  have h : iblk m c 3 t (ix2 0 f) = V m c main_v51 (ix2 0 f) := by blk_ext [iblk, z3 t]
  refine (h.trans (congrFun (v51_eq m c) (ix2 0 f))).trans ?_
  exact (lay_apply _ shapeCasts_S33_S1x33 f).trans (congrArg lit4 (Fin.ext (Shape.rowMajor_val_one (ix1 f))))

theorem read4 (f : Fin 33) : iblk m c 4 t (ix2 0 f) = lit5 f := by
  have h : iblk m c 4 t (ix2 0 f) = V m c main_v52 (ix2 0 f) := by blk_ext [iblk, z4 t]
  refine (h.trans (congrFun (v52_eq m c) (ix2 0 f))).trans ?_
  exact (lay_apply _ shapeCasts_S33_S1x33 f).trans (congrArg lit5 (Fin.ext (Shape.rowMajor_val_one (ix1 f))))

theorem read5 (f : Fin 33) : iblk m c 5 t (ix2 0 f) = lit6 f := by
  have h : iblk m c 5 t (ix2 0 f) = V m c main_v53 (ix2 0 f) := by blk_ext [iblk, z5 t]
  refine (h.trans (congrFun (v53_eq m c) (ix2 0 f))).trans ?_
  exact (lay_apply _ shapeCasts_S33_S1x33 f).trans (congrArg lit6 (Fin.ext (Shape.rowMajor_val_one (ix1 f))))

theorem read6 (r : Fin 1024) (k : Fin 256) : iblk m c 6 t (ix2 r k) = rowOf (tabsM m c k) r := by
  have h : iblk m c 6 t (ix2 r k) = V m c main_v43 (ix2 r k) := by blk_ext [iblk, z6 t]
  refine (h.trans (congrFun (v43_eq m c) (ix2 r k))).trans ?_
  refine (extractStridedSlice_apply _ _ slices_S1064x256_S1024x256_0_0 (ix2 r k) (ix2 ⟨r.val, by omega⟩ k) fun a => by
    match a with
    | ⟨0, _⟩ => exact (Nat.zero_add r.val).symm
    | ⟨1, _⟩ => exact (Nat.zero_add k.val).symm).trans ?_
  exact la_apply _ _ _ _ _ _ _ _ _ _ _ k

theorem read7 (f : Fin 33) (k : Fin 256) : iblk m c 7 t (ix2 f k) = rowOf (tabsM m c k) (1031 + f) := by
  have h : iblk m c 7 t (ix2 f k) = V m c main_v44 (ix2 f k) := by blk_ext [iblk, z7 t]
  refine (h.trans (congrFun (v44_eq m c) (ix2 f k))).trans ?_
  refine (extractStridedSlice_apply _ _ slices_S1064x256_S33x256_1031_0 (ix2 f k) (ix2 ⟨1031 + f.val, by omega⟩ k) fun a => by
    match a with
    | ⟨0, _⟩ => rfl
    | ⟨1, _⟩ => exact (Nat.zero_add k.val).symm).trans ?_
  exact la_apply _ _ _ _ _ _ _ _ _ _ _ k

theorem read8 (k : Fin 256) : iblk m c 8 t (ix2 0 k) = ((tabsM m c k).bab + (tabsM m c k).bit) + (tabsM m c k).benc := by
  have h : iblk m c 8 t (ix2 0 k) = V m c main_v47 (ix2 0 k) := by blk_ext [iblk, z8 t]
  refine (h.trans (congrFun (v47_eq m c) (ix2 0 k))).trans ?_
  exact lay_apply _ shapeCasts_S256_S1x256 k

theorem read9 (k : Fin 256) : iblk m c 9 t (ix2 0 k) = scale m c (ix1 k) := by
  have h : iblk m c 9 t (ix2 0 k) = V m c main_v48 (ix2 0 k) := by blk_ext [iblk, z9 t]
  refine (h.trans (congrFun (v48_eq m c) (ix2 0 k))).trans ?_
  exact lay_apply _ shapeCasts_S256_S1x256 k

theorem read10 (k : Fin 256) : iblk m c 10 t (ix2 0 k) = shift m c (ix1 k) := by
  have h : iblk m c 10 t (ix2 0 k) = V m c main_v49 (ix2 0 k) := by blk_ext [iblk, z10 t]
  refine (h.trans (congrFun (v49_eq m c) (ix2 0 k))).trans ?_
  exact lay_apply _ shapeCasts_S256_S1x256 k

theorem place (n : Fin 2048) (k : Fin 256) :
    ((cfg0.win 11).blk t).view.emb (ix2 n k) = (ix2 (at' t n) k : S16384x256.Idx) := by
  unfold at'
  blk_ext [iblk, z11 t]
  show t.val * 2048 + n.val = 2048 * t.val + n.val
  omega

/-- The last step: scaling and shifting. -/
theorem pay1_apply (x : FVec Ideal S2048x256 .f32) (P9 P10 : FVec Ideal S1x256 .f32) (n : Fin 2048) (k : Fin 256) :
    k0_pay1 x (k0_pay4 P9) P10 (ix2 n k) = x (ix2 n k) * P9 (ix2 0 k) + P10 (ix2 0 k) := by
  refine congrArg₂ (fun a b : EReal => a + b) (congrArg (fun b : EReal => x (ix2 n k) * b) ?_) ?_
  · refine (row_apply (by decide) _ _ n k).trans ?_
    unfold k0_pay4
    rw [shapeCast_self]
  · refine (row_apply (by decide) _ _ n k).trans ?_
    rw [shapeCast_self]

variable (hE : ∀ n f, (E m c (ix2 n f)).toNat < 64)

include hE in
theorem feat_lt (n : Fin 16384) (f : ℕ) (hf : f < 33) : feat m c n f < 64 := by
  unfold feat; rw [dif_pos hf]; exact hE _ _

theorem feat_word (n : Fin 16384) (f : Fin 33) : E m c (ix2 n f) = BitVec.ofNat 32 (feat m c n f) := by
  unfold feat; rw [dif_pos f.isLt, BitVec.ofNat_toNat, BitVec.setWidth_eq]

include hE in
/-- A block's row before its normalization is the specified row. -/
theorem row_block (n : Fin 2048) (k : Fin 256) :
    acc (iblk m c 0 t) (k0_pay2 (iblk m c 0 t) (iblk m c 3 t) (iblk m c 4 t) (iblk m c 5 t)) (iblk m c 1 t)
      (iblk m c 2 t) (iblk m c 8 t) (iblk m c 7 t) (iblk m c 6 t) (ix2 n k)
      = row (tabsM m c k) (feat m c (at' t n)) := by
  have hv := feat_lt m c hE (at' t n)
  have h0 : ∀ f : Fin 33, iblk m c 0 t (ix2 n f) = BitVec.ofNat 32 (feat m c (at' t n) f) := fun f =>
    (read0 m c t n f).trans (feat_word m c (at' t n) f)
  refine (acc_apply (iblk m c 0 t) _ (iblk m c 1 t) (iblk m c 2 t) (iblk m c 8 t) (iblk m c 7 t) (iblk m c 6 t) n k
    (feat m c (at' t n)) hv h0 (fun f => ?_) (read1 m c t) (fun r => Ideal.ofBits .f32 (lit3t r)) (read2 m c t)
    idx_num idx_pad (fun f => rowOf (tabsM m c k) (1031 + f)) (rowOf (tabsM m c k)) (fun f => read7 m c t f k)
    (fun r => read6 m c t r k)).trans ?_
  · refine (pay2_apply (iblk m c 0 t) (iblk m c 5 t) (iblk m c 3 t) (iblk m c 4 t) n f).trans ?_
    rw [h0 f, read3 m c t f, read4 m c t f, read5 m c t f]
    exact tword_eq f _ (hv f f.isLt)
  · refine Eq.trans ?_ (KRow.krow_eq (tabsM m c k) (feat m c (at' t n)) hv)
    exact congrArg (fun b : EReal => (b + ∑ f ∈ Finset.range 33, num (feat m c (at' t n) f) * rowOf (tabsM m c k) (1031 + f))
      + lookups (rowOf (tabsM m c k)) (feat m c (at' t n))) (read8 m c t k)

include hE in
/-- The kernel's result array. -/
theorem arr : (dats m 0 c).arrAt 11 cfg0.N = G m c := by
  refine (dats m 0 c).arrAt_eq_of_covers 11 _ (by decide +kernel) fun t hf y => ?_
  blk_simp
  rw [after0_11]
  frame_out
  obtain ⟨n, k, rfl⟩ : ∃ (n : Fin 2048) (k : Fin 256), y = ix2 n k := ⟨y 0, y 1, ValueIdx.eq_ix2 y⟩
  refine Eq.trans ?_ (congrArg (G m c) (place t n k)).symm
  refine (pay1_apply _ (iblk m c 9 t) (iblk m c 10 t) n k).trans ?_
  rw [pay3_eq, normK_apply, read9 m c t k, read10 m c t k]
  refine congrArg (fun e : Fin 256 → EReal => normed e k * scale m c (ix1 k) + shift m c (ix1 k)) (funext fun j => ?_)
  exact row_block m c t hE n j

end Cert.Proof.Ker
-- ==== Proof.Claims.lean ====
/- The claims: what the precondition gives, what the reference computes, and the equality of the two results. -/
module

public import proofs.«01_k».proof.Defs
public import proofs.«01_k».proof.Proof.Gen.Kernel.Frame
public import proofs.«01_k».proof.Proof.Gen.Pre_drawn_as_in_setup
public import proofs.«01_k».proof.Proof.RefRow
public import proofs.«01_k».proof.Proof.Ker
public import Idealize.ShloMosaic.Lib.Quiescent
public import Idealize.ShloMosaic.Lib.ReduceAll
public import Idealize.ShloMosaic.Lib.Affine

@[expose] public section

set_option maxRecDepth 16384

noncomputable section

namespace Cert.Proof.Claims

open Idealize.ShloMosaic hiding ix0 ix1 ix2 ix3
open Idealize.ShloMosaic.ValueIdx Idealize.SL.Sem
open Cert.Proof.Sums Cert.Proof.Spec Cert.Proof.Norm

section Precondition
open Cert.Pre_drawn_as_in_setup

/-- The only index of a scalar. -/
def j0 : S_.Idx := fun a => a.elim0

instance : Subsingleton S_.Idx := ⟨fun a b => funext fun k => k.elim0⟩

/-- The comparison of a table's first rows with the identity, all ones, says they are the identity's. -/
theorem eye {R : ℕ} (hR : R < 2 ^ 32) (x : FVec Ideal ⟨2, ![R, R]⟩ .f32)
    (hs : (⟨2, ![R, R]⟩ : Shape).Slices ![0, 0] ⟨2, ![64, R]⟩) (hb : S_.BroadcastsInDim ⟨2, ![64, R]⟩ ![])
    (h : ∀ i, cmpf (F := Ideal) .oeq (extractStridedSlice ⟨2, ![64, R]⟩ ![0, 0] x hs)
      (uitofp (F := Ideal) .f32 (cmpi .eq (addi (iotaInDim ⟨2, ![64, R]⟩ 32 0)
        (broadcastInDim ⟨2, ![64, R]⟩ ![] hb (constantI S_ 32 0#32))) (iotaInDim ⟨2, ![64, R]⟩ 32 1))) i = 1#1) :
    Ref.EyeTop (R := R) x := by
  intro a c ha
  have h1 := h (ix2 ⟨a.val, ha⟩ c)
  have e : extractStridedSlice ⟨2, ![64, R]⟩ ![0, 0] x hs (ix2 ⟨a.val, ha⟩ c) = x (ix2 a c) :=
    extractStridedSlice_apply _ x hs _ _ fun k => by
      match k with
      | ⟨0, _⟩ => exact (Nat.zero_add a.val).symm
      | ⟨1, _⟩ => exact (Nat.zero_add c.val).symm
  have w : uitofp (F := Ideal) .f32 (cmpi .eq (addi (iotaInDim ⟨2, ![64, R]⟩ 32 0)
      (broadcastInDim ⟨2, ![64, R]⟩ ![] hb (constantI S_ 32 0#32))) (iotaInDim ⟨2, ![64, R]⟩ 32 1)) (ix2 ⟨a.val, ha⟩ c)
      = if a.val = c.val then (1 : EReal) else 0 := by
    refine (Reads.indicator (BitVec.ofNat 32 a.val + 0#32) (BitVec.ofNat 32 c.val)).trans (if_congr ?_ rfl rfl)
    rw [BitVec.add_zero, Reads.word_eq (by omega) (by omega)]
  rw [← e, ← w]
  have h2 : BitVec.ofBool (decide (extractStridedSlice ⟨2, ![64, R]⟩ ![0, 0] x hs (ix2 ⟨a.val, ha⟩ c)
      = uitofp (F := Ideal) .f32 (cmpi .eq (addi (iotaInDim ⟨2, ![64, R]⟩ 32 0)
      (broadcastInDim ⟨2, ![64, R]⟩ ![] hb (constantI S_ 32 0#32))) (iotaInDim ⟨2, ![64, R]⟩ 32 1)) (ix2 ⟨a.val, ha⟩ c)))
      = 1#1 := h1
  by_contra hne
  rw [decide_eq_false hne] at h2
  exact absurd h2 (by decide)

/-- A word that is not negative and below 64 is a number below 64. -/
theorem word_small (x : BitVec 32) (h : IntOp.andi (IntOp.cmpi .sge x 0#32) (IntOp.cmpi .slt x 64#32) = 1#1) :
    x.toNat < 64 := by
  have h2 : IntOp.cmpi .sge x 0#32 = 1#1 ∧ IntOp.cmpi .slt x 64#32 = 1#1 := by
    revert h
    generalize IntOp.cmpi .sge x 0#32 = a
    generalize IntOp.cmpi .slt x 64#32 = b
    revert a b
    decide
  have h3 := IntOp.cmpi_sge.1 h2.1
  have h4 := IntOp.cmpi_slt.1 h2.2
  have z : (0#32 : BitVec 32).toInt = 0 := by decide
  have z' : (64#32 : BitVec 32).toInt = 64 := by decide
  rw [z] at h3
  rw [z'] at h4
  have := BitVec.toInt_eq_toNat_cond x
  have := x.isLt
  split at * <;> omega

variable [Facts]
variable (a0 : IVec S16384x33 32) (a1 : FVec Ideal S512x256 .f32) (a2 : FVec Ideal S128x256 .f32)
  (a3 : FVec Ideal S512x256 .f32) (a4 : FVec Ideal S1024x256 .f32) (a5 : FVec Ideal S128x128 .f32)
  (a6 a7 : FVec Ideal S512x512 .f32) (a8 : FVec Ideal S128x256 .f32) (a9 : FVec Ideal S256 .f32)
  (a10 : FVec Ideal S512x256 .f32) (a11 : FVec Ideal S256 .f32) (a12 : FVec Ideal S734x256 .f32)
  (a13 a14 a15 : FVec Ideal S256 .f32)

theorem pre_small (h : (fn (F := Ideal) a0 a1 a2 a3 a4 a5 a6 a7 a8 a9 a10 a11 a12 a13 a14 a15).1 = fun _ => 1#1)
    (n : Fin 16384) (f : Fin 33) : (a0 (ix2 n f)).toNat < 64 := by
  dsimp only [fn, fn_part1] at h
  exact word_small _ (Host.reduce_andi_all _ _ _ _ j0 (congrFun h j0) (ix2 n f))

theorem pre_ability (h : (fn (F := Ideal) a0 a1 a2 a3 a4 a5 a6 a7 a8 a9 a10 a11 a12 a13 a14 a15).2.1 = fun _ => 1#1) :
    Ref.EyeTop (R := 128) a5 := by
  dsimp only [fn, fn_part1] at h
  exact eye (by decide) a5 _ _ (Host.reduce_andi_all _ _ _ _ j0 (congrFun h j0))

theorem pre_item (h : (fn (F := Ideal) a0 a1 a2 a3 a4 a5 a6 a7 a8 a9 a10 a11 a12 a13 a14 a15).2.2.1 = fun _ => 1#1) :
    Ref.EyeTop (R := 512) a6 := by
  dsimp only [fn, fn_part1] at h
  exact eye (by decide) a6 _ _ (Host.reduce_andi_all _ _ _ _ j0 (congrFun h j0))

theorem pre_species (h : (fn (F := Ideal) a0 a1 a2 a3 a4 a5 a6 a7 a8 a9 a10 a11 a12 a13 a14 a15).2.2.2 = fun _ => 1#1) :
    Ref.EyeTop (R := 512) a7 := by
  dsimp only [fn, fn_part1] at h
  exact eye (by decide) a7 _ _ (Host.reduce_andi_all _ _ _ _ j0 (congrFun h j0))

end Precondition

section Reference
open Cert.ReferenceIdeal Cert.ReferenceIdeal.Gen Cert.ReferenceIdeal.Value

/-- The reference's result in terms of its row before the normalization. -/
def out (V : Valuation τ sig (Elt Ideal)) : FVec Ideal S16384x256 .f32 :=
  addf (mulf (normR (res_main_v177 V)) (broadcastInDim S16384x256 ![0, 1] bcast_S1x256_S16384x256_0_1
    (broadcastInDim S1x256 ![1] bcast_S256_S1x256_1 (V (Proc.devRef .tc main_arg14)))))
    (broadcastInDim S16384x256 ![0, 1] bcast_S1x256_S16384x256_0_1
      (broadcastInDim S1x256 ![1] bcast_S256_S1x256_1 (V (Proc.devRef .tc main_arg15))))

/-- The reference's result, at a row and a column. -/
theorem out_apply (V : Valuation τ sig (Elt Ideal)) (hV : Ref.Drawn V) (n : Fin 16384) (k : Fin 256) :
    out V (ix2 n k) = normed (fun j => row (Ref.tabs V j) (Ref.feat V n)) k
      * (V (Proc.devRef .tc main_arg14) : S256.Idx → EReal) (ix1 k)
      + (V (Proc.devRef .tc main_arg15) : S256.Idx → EReal) (ix1 k) := by
  refine congrArg₂ (fun a b : EReal => a + b) (congrArg₂ (fun a b : EReal => a * b) ?_ (Ref.bias_apply n k _))
    (Ref.bias_apply n k _)
  refine (normR_apply (res_main_v177 V) n k).trans ?_
  exact congrArg (fun e : Fin 256 → EReal => normed e k) (funext fun j => Ref.row_eq V hV n j)

end Reference

/-- Tables whose arrays agree agree. -/
theorem tabs_congr {a1 b1 : FVec Ideal Cert.KernelIdeal.S512x256 .f32} {a2 b2 : FVec Ideal Cert.KernelIdeal.S128x256 .f32}
    {a3 b3 : FVec Ideal Cert.KernelIdeal.S512x256 .f32} {a4 b4 : FVec Ideal Cert.KernelIdeal.S1024x256 .f32}
    {a8 b8 : FVec Ideal Cert.KernelIdeal.S128x256 .f32} {a10 b10 : FVec Ideal Cert.KernelIdeal.S512x256 .f32}
    {a12 b12 : FVec Ideal Cert.KernelIdeal.S734x256 .f32} {a9 b9 a11 b11 a13 b13 : FVec Ideal Cert.KernelIdeal.S256 .f32}
    (h1 : a1 = b1) (h2 : a2 = b2) (h3 : a3 = b3) (h4 : a4 = b4) (h8 : a8 = b8) (h10 : a10 = b10) (h12 : a12 = b12)
    (h9 : a9 = b9) (h11 : a11 = b11) (h13 : a13 = b13) (k : Fin 256) :
    Host.tabsOf a1 a2 a3 a4 a8 a10 a12 a9 a11 a13 k = Host.tabsOf b1 b2 b3 b4 b8 b10 b12 b9 b11 b13 k := by
  subst h1 h2 h3 h4 h8 h10 h12 h9 h11 h13; rfl

/-- The kernel's frame as printed. -/
theorem frame_p : Cert.quiescent_Kernel := fun m ρ _ => Cert.Kernel.Gen.frame m ρ
/-- The kernel's frame over the extended reals. -/
theorem frame_pi : Cert.quiescent_KernelIdeal := fun m ρ _ => Cert.KernelIdeal.Gen.frame m ρ
/-- The same under the precondition. -/
theorem frame_pi_pre : Cert.quiescent_KernelIdeal_pre_drawn_as_in_setup := fun m ρ _ => Cert.KernelIdeal.Gen.frame m ρ
/-- The reference's frame. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)
/-- The same under the precondition. -/
theorem frame_ri_pre : Cert.quiescent_ReferenceIdeal_pre_drawn_as_in_setup := fun m ρ _ => frame_ri m ρ trivial

/-- The pass to the extended reals rewrote nothing. -/
theorem preserves : Cert.preserves_Kernel_KernelIdeal := trivial

/-- On arguments as drawn, the kernel and the reference end at one result. -/
theorem algebraic : Cert.algebraic_KernelIdeal_ReferenceIdeal_pre_drawn_as_in_setup := by
  intro m ρ m' ρ' hpre hagree
  refine ⟨fun c => Ker.G m c, ?_, ?_⟩
  · refine (θ_run Cert.KernelIdeal.defs _ _).mono (fun _ h c => ⟨(h c).1.trans ?_, (h c).2⟩)
      (Cert.KernelIdeal.Value.run_blocks (F := Ideal) m ρ)
    exact Ker.arr m c (pre_small _ _ _ _ _ _ _ _ _ _ _ _ _ _ _ _ (hpre c).1)
  · refine (θ_run Cert.ReferenceIdeal.defs _ _).mono (fun _ h c => ⟨(h c).1.trans ?_, (h c).2⟩)
      (Cert.ReferenceIdeal.Value.run (F := Ideal) m' ρ')
    obtain ⟨p0, p1, p2, p3⟩ := hpre c
    obtain ⟨h0, h1, h2, h3, h4, h5, h6, h7, h8, h9, h10, h11, h12, h13, h14, h15⟩ := hagree c
    have hs := pre_small _ _ _ _ _ _ _ _ _ _ _ _ _ _ _ _ p0
    have ha := pre_ability _ _ _ _ _ _ _ _ _ _ _ _ _ _ _ _ p1
    have hi := pre_item _ _ _ _ _ _ _ _ _ _ _ _ _ _ _ _ p2
    have hp := pre_species _ _ _ _ _ _ _ _ _ _ _ _ _ _ _ _ p3
    rw [← h0] at hs
    rw [← h5] at ha
    rw [← h6] at hi
    rw [← h7] at hp
    have hV : Ref.Drawn (StableHlo.launchContents m' c) := ⟨hs, ha, hi, hp⟩
    show out (StableHlo.launchContents m' c) = Ker.G m c
    funext i
    obtain ⟨n, k, rfl⟩ : ∃ (n : Fin 16384) (k : Fin 256), i = ix2 n k := ⟨i 0, i 1, ValueIdx.eq_ix2 i⟩
    refine (out_apply (StableHlo.launchContents m' c) hV n k).trans ?_
    have hT : ∀ j, Ref.tabs (StableHlo.launchContents m' c) j = Host.tabsM m c j := fun j =>
      tabs_congr h1 h2 h3 h4 h8 h10 h12 h9 h11 h13 j
    have hF : Ref.feat (StableHlo.launchContents m' c) n = Ker.feat m c n := funext fun f =>
      congrArg (fun e : Cert.KernelIdeal.S16384x33.Idx → BitVec 32 =>
        if h : f < 33 then (e (ix2 n ⟨f, h⟩)).toNat else 0) h0
    have hS : (StableHlo.launchContents m' c (Proc.devRef .tc Cert.ReferenceIdeal.main_arg14) : Cert.KernelIdeal.S256.Idx → EReal)
      = Ker.scale m c := h14
    have hB : (StableHlo.launchContents m' c (Proc.devRef .tc Cert.ReferenceIdeal.main_arg15) : Cert.KernelIdeal.S256.Idx → EReal)
      = Ker.shift m c := h15
    refine congrArg₂ (fun a b : EReal => a + b) (congrArg₂ (fun a b : EReal => a * b) ?_ (congrFun hS (ix1 k)))
      (congrFun hB (ix1 k))
    refine congrArg (fun e : Fin 256 → EReal => normed e k) (funext fun j => ?_)
    exact congrArg₂ row (hT j) hF

end Cert.Proof.Claims
-- ==== Proof.lean ====
/- The certificate: the witnesses of the programs' stated facts, then the seven parts of `Cert.Claim`, each proved in
   `Proof/Claims.lean`: the frames of the kernel, of the kernel over the extended reals and of the reference, the pass
   to the extended reals, and the equality of the two results on arguments drawn as in the problem's set-up. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn_as_in_setup
public import proofs.«01_k».proof.Proof.Gen.KernelIdeal.Value
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Every claim of the certificate holds. -/
theorem claim : Cert.Claim := ⟨Cert.Kernel.Gen.facts, Cert.KernelIdeal.Gen.facts, Cert.ReferenceIdeal.Gen.facts,
  Cert.Pre_drawn_as_in_setup.Gen.facts, Claims.frame_p, Claims.frame_pi, Claims.frame_pi_pre, Claims.frame_ri, Claims.frame_ri_pre, Claims.preserves, Claims.algebraic⟩

end Cert.Proof

end
